-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v20_1)) (v1 : (c : Dev Cert.KernelIdeal.nD) → Buf (Elt Ideal) ((c.tc : Thread Cert.KernelIdeal.nD Cert.KernelIdeal.τ).loc Cert.KernelIdeal.main_v19_0)) (v2 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_1) = v0 c
          ∧ r.2.mem ((c.tc : Thread Cert.KernelIdeal.nD Cert.KernelIdeal.τ).loc Cert.KernelIdeal.main_v19_0) = v1 c
          ∧ r.2.mem ((c.tc : Thread Cert.KernelIdeal.nD Cert.KernelIdeal.τ).loc Cert.KernelIdeal.main_v20_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v179) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x256 : Shape := ⟨2, ![256, 256]⟩
abbrev S1024x256 : Shape := ⟨2, ![1024, 256]⟩
abbrev S512x512 : Shape := ⟨2, ![512, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  bcast_S_S4096x4096 : S_.BroadcastsInDim S4096x4096 (![] : Fin 0 → Fin S4096x4096.rank)
  bcast_S_S512x256 : S_.BroadcastsInDim S512x256 (![] : Fin 0 → Fin S512x256.rank)
  bcast_S_S256 : S_.BroadcastsInDim S256 (![] : Fin 0 → Fin S256.rank)
  bcast_S_S256x256 : S_.BroadcastsInDim S256x256 (![] : Fin 0 → Fin S256x256.rank)
  bcast_S_S1024x256 : S_.BroadcastsInDim S1024x256 (![] : Fin 0 → Fin S1024x256.rank)
  bcast_S_S512x512 : S_.BroadcastsInDim S512x512 (![] : Fin 0 → Fin S512x512.rank)
  bcast_S_S512 : S_.BroadcastsInDim S512 (![] : Fin 0 → Fin S512.rank)

variable [Facts]

def fn_part4 {F : FTy → Type} [FloatOps F] (main_arg17 : FVec F S512x512 .f32) (main_arg18 : FVec F S512 .f32) (main_v2 : IVec S4096x512 1) (main_v5 : IVec S4096x4096 1) (main_v12 : IVec S512x256 1) (main_v55 : IVec S256 1) (main_v74 : IVec S256x256 1) (main_v75 : FVec F S1024x256 .f32) : IVec S4096x512 1 × IVec S4096x4096 1 × IVec S512x256 1 × IVec S256 1 × IVec S256x256 1 × IVec S1024x256 1 × IVec S512x512 1 × IVec S512 1 :=
  let main_cst_19 : FVec F S_ .f32 := constant S_ .f32 0x7F800000#32
  let main_v76 : FVec F S1024x256 .f32 := broadcastInDim S1024x256 ![] bcast_S_S1024x256 main_cst_19
  let main_v77 : IVec S1024x256 1 := cmpf .olt main_v75 main_v76
  let main_v78 : FVec F S512x512 .f32 := Host.absf main_arg17
  let main_cst_20 : FVec F S_ .f32 := constant S_ .f32 0x7F800000#32
  let main_v79 : FVec F S512x512 .f32 := broadcastInDim S512x512 ![] bcast_S_S512x512 main_cst_20
  let main_v80 : IVec S512x512 1 := cmpf .olt main_v78 main_v79
  let main_v81 : FVec F S512 .f32 := Host.absf main_arg18
  let main_cst_21 : FVec F S_ .f32 := constant S_ .f32 0x7F800000#32
  let main_v82 : FVec F S512 .f32 := broadcastInDim S512 ![] bcast_S_S512 main_cst_21
  let main_v83 : IVec S512 1 := cmpf .olt main_v81 main_v82
  (main_v2, main_v5, main_v12, main_v55, main_v74, main_v77, main_v80, main_v83)

def fn_part3 {F : FTy → Type} [FloatOps F] (main_arg10 : FVec F S1024x256 .f32) (main_arg11 : FVec F S256x256 .f32) (main_arg13 : FVec F S256x256 .f32) (main_arg15 : FVec F S256x256 .f32) (main_arg17 : FVec F S512x512 .f32) (main_arg18 : FVec F S512 .f32) (main_arg21 : FVec F S256x256 .f32) (main_v2 : IVec S4096x512 1) (main_v5 : IVec S4096x4096 1) (main_v12 : IVec S512x256 1) (main_v55 : IVec S256 1) (main_v56 : FVec F S256x256 .f32) : IVec S4096x512 1 × IVec S4096x4096 1 × IVec S512x256 1 × IVec S256 1 × IVec S256x256 1 × IVec S1024x256 1 × IVec S512x512 1 × IVec S512 1 :=
  let main_cst_14 : FVec F S_ .f32 := constant S_ .f32 0x7F800000#32
  let main_v57 : FVec F S256x256 .f32 := broadcastInDim S256x256 ![] bcast_S_S256x256 main_cst_14
  let main_v58 : IVec S256x256 1 := cmpf .olt main_v56 main_v57
  let main_v59 : FVec F S256x256 .f32 := Host.absf main_arg11
  let main_cst_15 : FVec F S_ .f32 := constant S_ .f32 0x7F800000#32
  let main_v60 : FVec F S256x256 .f32 := broadcastInDim S256x256 ![] bcast_S_S256x256 main_cst_15
  let main_v61 : IVec S256x256 1 := cmpf .olt main_v59 main_v60
  let main_v62 : FVec F S256x256 .f32 := Host.absf main_arg13
  let main_cst_16 : FVec F S_ .f32 := constant S_ .f32 0x7F800000#32
  let main_v63 : FVec F S256x256 .f32 := broadcastInDim S256x256 ![] bcast_S_S256x256 main_cst_16
  let main_v64 : IVec S256x256 1 := cmpf .olt main_v62 main_v63
  let main_v65 : FVec F S256x256 .f32 := Host.absf main_arg15
  let main_cst_17 : FVec F S_ .f32 := constant S_ .f32 0x7F800000#32
  let main_v66 : FVec F S256x256 .f32 := broadcastInDim S256x256 ![] bcast_S_S256x256 main_cst_17
  let main_v67 : IVec S256x256 1 := cmpf .olt main_v65 main_v66
  let main_v68 : FVec F S256x256 .f32 := Host.absf main_arg21
  let main_cst_18 : FVec F S_ .f32 := constant S_ .f32 0x7F800000#32
  let main_v69 : FVec F S256x256 .f32 := broadcastInDim S256x256 ![] bcast_S_S256x256 main_cst_18
  let main_v70 : IVec S256x256 1 := cmpf .olt main_v68 main_v69
  let main_v71 : IVec S256x256 1 := andi main_v58 main_v61
  let main_v72 : IVec S256x256 1 := andi main_v71 main_v64
  let main_v73 : IVec S256x256 1 := andi main_v72 main_v67
  let main_v74 : IVec S256x256 1 := andi main_v73 main_v70
  let main_v75 : FVec F S1024x256 .f32 := Host.absf main_arg10
  fn_part4 (F := F) main_arg17 main_arg18 main_v2 main_v5 main_v12 main_v55 main_v74 main_v75

def fn_part2 {F : FTy → Type} [FloatOps F] (main_arg6 : FVec F S256x256 .f32) (main_arg10 : FVec F S1024x256 .f32) (main_arg11 : FVec F S256x256 .f32) (main_arg13 : FVec F S256x256 .f32) (main_arg15 : FVec F S256x256 .f32) (main_arg16 : FVec F S256 .f32) (main_arg17 : FVec F S512x512 .f32) (main_arg18 : FVec F S512 .f32) (main_arg20 : FVec F S256 .f32) (main_arg21 : FVec F S256x256 .f32) (main_arg22 : FVec F S256 .f32) (main_v2 : IVec S4096x512 1) (main_v5 : IVec S4096x4096 1) (main_v12 : IVec S512x256 1) (main_v15 : IVec S256 1) (main_v18 : IVec S256 1) (main_v21 : IVec S256 1) (main_v24 : IVec S256 1) (main_v27 : IVec S256 1) (main_v30 : IVec S256 1) (main_v33 : IVec S256 1) (main_v34 : FVec F S256 .f32) (main_v35 : FVec F S256 .f32) : IVec S4096x512 1 × IVec S4096x4096 1 × IVec S512x256 1 × IVec S256 1 × IVec S256x256 1 × IVec S1024x256 1 × IVec S512x512 1 × IVec S512 1 :=
  let main_v36 : IVec S256 1 := cmpf .olt main_v34 main_v35
  let main_v37 : FVec F S256 .f32 := Host.absf main_arg16
  let main_cst_11 : FVec F S_ .f32 := constant S_ .f32 0x7F800000#32
  let main_v38 : FVec F S256 .f32 := broadcastInDim S256 ![] bcast_S_S256 main_cst_11
  let main_v39 : IVec S256 1 := cmpf .olt main_v37 main_v38
  let main_v40 : FVec F S256 .f32 := Host.absf main_arg20
  let main_cst_12 : FVec F S_ .f32 := constant S_ .f32 0x7F800000#32
  let main_v41 : FVec F S256 .f32 := broadcastInDim S256 ![] bcast_S_S256 main_cst_12
  let main_v42 : IVec S256 1 := cmpf .olt main_v40 main_v41
  let main_v43 : FVec F S256 .f32 := Host.absf main_arg22
  let main_cst_13 : FVec F S_ .f32 := constant S_ .f32 0x7F800000#32
  let main_v44 : FVec F S256 .f32 := broadcastInDim S256 ![] bcast_S_S256 main_cst_13
  let main_v45 : IVec S256 1 := cmpf .olt main_v43 main_v44
  let main_v46 : IVec S256 1 := andi main_v15 main_v18
  let main_v47 : IVec S256 1 := andi main_v46 main_v21
  let main_v48 : IVec S256 1 := andi main_v47 main_v24
  let main_v49 : IVec S256 1 := andi main_v48 main_v27
  let main_v50 : IVec S256 1 := andi main_v49 main_v30
  let main_v51 : IVec S256 1 := andi main_v50 main_v33
  let main_v52 : IVec S256 1 := andi main_v51 main_v36
  let main_v53 : IVec S256 1 := andi main_v52 main_v39
  let main_v54 : IVec S256 1 := andi main_v53 main_v42
  let main_v55 : IVec S256 1 := andi main_v54 main_v45
  let main_v56 : FVec F S256x256 .f32 := Host.absf main_arg6
  fn_part3 (F := F) main_arg10 main_arg11 main_arg13 main_arg15 main_arg17 main_arg18 main_arg21 main_v2 main_v5 main_v12 main_v55 main_v56

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S1024x256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S512x512 .f32) (main_arg18 : FVec F S512 .f32) (main_arg20 : FVec F S256 .f32) (main_arg21 : FVec F S256x256 .f32) (main_arg22 : FVec F S256 .f32) (main_v2 : IVec S4096x512 1) (main_v5 : IVec S4096x4096 1) (main_v12 : IVec S512x256 1) (main_v15 : IVec S256 1) (main_v16 : FVec F S256 .f32) (main_v17 : FVec F S256 .f32) : IVec S4096x512 1 × IVec S4096x4096 1 × IVec S512x256 1 × IVec S256 1 × IVec S256x256 1 × IVec S1024x256 1 × IVec S512x512 1 × IVec S512 1 :=
  let main_v18 : IVec S256 1 := cmpf .olt main_v16 main_v17
  let main_v19 : FVec F S256 .f32 := Host.absf main_arg5
  let main_cst_5 : FVec F S_ .f32 := constant S_ .f32 0x7F800000#32
  let main_v20 : FVec F S256 .f32 := broadcastInDim S256 ![] bcast_S_S256 main_cst_5
  let main_v21 : IVec S256 1 := cmpf .olt main_v19 main_v20
  let main_v22 : FVec F S256 .f32 := Host.absf main_arg7
  let main_cst_6 : FVec F S_ .f32 := constant S_ .f32 0x7F800000#32
  let main_v23 : FVec F S256 .f32 := broadcastInDim S256 ![] bcast_S_S256 main_cst_6
  let main_v24 : IVec S256 1 := cmpf .olt main_v22 main_v23
  let main_v25 : FVec F S256 .f32 := Host.absf main_arg8
  let main_cst_7 : FVec F S_ .f32 := constant S_ .f32 0x7F800000#32
  let main_v26 : FVec F S256 .f32 := broadcastInDim S256 ![] bcast_S_S256 main_cst_7
  let main_v27 : IVec S256 1 := cmpf .olt main_v25 main_v26
  let main_v28 : FVec F S256 .f32 := Host.absf main_arg9
  let main_cst_8 : FVec F S_ .f32 := constant S_ .f32 0x7F800000#32
  let main_v29 : FVec F S256 .f32 := broadcastInDim S256 ![] bcast_S_S256 main_cst_8
  let main_v30 : IVec S256 1 := cmpf .olt main_v28 main_v29
  let main_v31 : FVec F S256 .f32 := Host.absf main_arg12
  let main_cst_9 : FVec F S_ .f32 := constant S_ .f32 0x7F800000#32
  let main_v32 : FVec F S256 .f32 := broadcastInDim S256 ![] bcast_S_S256 main_cst_9
  let main_v33 : IVec S256 1 := cmpf .olt main_v31 main_v32
  let main_v34 : FVec F S256 .f32 := Host.absf main_arg14
  let main_cst_10 : FVec F S_ .f32 := constant S_ .f32 0x7F800000#32
  let main_v35 : FVec F S256 .f32 := broadcastInDim S256 ![] bcast_S_S256 main_cst_10
  fn_part2 (F := F) main_arg6 main_arg10 main_arg11 main_arg13 main_arg15 main_arg16 main_arg17 main_arg18 main_arg20 main_arg21 main_arg22 main_v2 main_v5 main_v12 main_v15 main_v18 main_v21 main_v24 main_v27 main_v30 main_v33 main_v34 main_v35

def fn {F : FTy → Type} [FloatOps F] (main_arg0 : FVec F S4096x512 .f32) (main_arg1 : FVec F S4096x4096 .f32) (main_arg2 : FVec F S512x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S1024x256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S512x512 .f32) (main_arg18 : FVec F S512 .f32) (main_arg19 : FVec F S512x256 .f32) (main_arg20 : FVec F S256 .f32) (main_arg21 : FVec F S256x256 .f32) (main_arg22 : FVec F S256 .f32) : IVec S4096x512 1 × IVec S4096x4096 1 × IVec S512x256 1 × IVec S256 1 × IVec S256x256 1 × IVec S1024x256 1 × IVec S512x512 1 × IVec S512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S512x256 .f32 := Host.absf main_arg2
  let main_cst_1 : FVec F S_ .f32 := constant S_ .f32 0x7F800000#32
  let main_v7 : FVec F S512x256 .f32 := broadcastInDim S512x256 ![] bcast_S_S512x256 main_cst_1
  let main_v8 : IVec S512x256 1 := cmpf .olt main_v6 main_v7
  let main_v9 : FVec F S512x256 .f32 := Host.absf main_arg19
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_v12 : IVec S512x256 1 := andi main_v8 main_v11
  let main_v13 : FVec F S256 .f32 := Host.absf main_arg3
  let main_cst_3 : FVec F S_ .f32 := constant S_ .f32 0x7F800000#32
  let main_v14 : FVec F S256 .f32 := broadcastInDim S256 ![] bcast_S_S256 main_cst_3
  let main_v15 : IVec S256 1 := cmpf .olt main_v13 main_v14
  let main_v16 : FVec F S256 .f32 := Host.absf main_arg4
  let main_cst_4 : FVec F S_ .f32 := constant S_ .f32 0x7F800000#32
  let main_v17 : FVec F S256 .f32 := broadcastInDim S256 ![] bcast_S_S256 main_cst_4
  fn_part1 (F := F) main_arg5 main_arg6 main_arg7 main_arg8 main_arg9 main_arg10 main_arg11 main_arg12 main_arg13 main_arg14 main_arg15 main_arg16 main_arg17 main_arg18 main_arg20 main_arg21 main_arg22 main_v2 main_v5 main_v12 main_v15 main_v16 main_v17
-- ==== Kernel.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x256 : Shape := ⟨2, ![256, 256]⟩
abbrev S1024x256 : Shape := ⟨2, ![1024, 256]⟩
abbrev S512x512 : Shape := ⟨2, ![512, 512]⟩
abbrev S512 : Shape := ⟨1, ![512]⟩
abbrev S4096x1 : Shape := ⟨2, ![4096, 1]⟩
abbrev S4096x256 : Shape := ⟨2, ![4096, 256]⟩
abbrev S256x4096 : Shape := ⟨2, ![256, 4096]⟩
abbrev S256x512 : Shape := ⟨2, ![256, 512]⟩
abbrev S256x1 : Shape := ⟨2, ![256, 1]⟩
abbrev S1x256 : Shape := ⟨2, ![1, 256]⟩
abbrev S512x1024 : Shape := ⟨2, ![512, 1024]⟩
abbrev S512x1 : Shape := ⟨2, ![512, 1]⟩
abbrev S1x512 : Shape := ⟨2, ![1, 512]⟩
abbrev S4096x1024 : Shape := ⟨2, ![4096, 1024]⟩

abbrev nBuf : Space → Nat
  | .hbm => 49
  | .vmem => 70
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S1024x256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S512x512, .f32⟩
  | .hbm, ⟨18, _⟩ => ⟨S512, .f32⟩
  | .hbm, ⟨19, _⟩ => ⟨S512x256, .f32⟩
  | .hbm, ⟨20, _⟩ => ⟨S256, .f32⟩
  | .hbm, ⟨21, _⟩ => ⟨S256x256, .f32⟩
  | .hbm, ⟨22, _⟩ => ⟨S256, .f32⟩
  | .hbm, ⟨23, _⟩ => ⟨S4096x1, .f32⟩
  | .hbm, ⟨24, _⟩ => ⟨S4096x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S4096x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S256x512, .f32⟩
  | .hbm, ⟨39, _⟩ => ⟨S256x512, .f32⟩
  | .hbm, ⟨40, _⟩ => ⟨S1x256, .f32⟩
  | .hbm, ⟨41, _⟩ => ⟨S1x512, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1024x256, .f32⟩
  | .hbm, ⟨46, _⟩ => ⟨S1024x256, .f32⟩
  | .hbm, ⟨47, _⟩ => ⟨S4096x1024, .f32⟩
  | .hbm, ⟨48, _⟩ => ⟨S4096x1024, .f32⟩
  | .local _ .vmem, ⟨0, _⟩ => ⟨S256x4096, .f32⟩
  | .local _ .vmem, ⟨1, _⟩ => ⟨S256x4096, .f32⟩
  | .local _ .vmem, ⟨2, _⟩ => ⟨S256x512, .f32⟩
  | .local _ .vmem, ⟨3, _⟩ => ⟨S256x512, .f32⟩
  | .local _ .vmem, ⟨4, _⟩ => ⟨S512x256, .f32⟩
  | .local _ .vmem, ⟨5, _⟩ => ⟨S256x1, .f32⟩
  | .local _ .vmem, ⟨6, _⟩ => ⟨S256x1, .f32⟩
  | .local _ .vmem, ⟨7, _⟩ => ⟨S256x256, .f32⟩
  | .local _ .vmem, ⟨8, _⟩ => ⟨S256x256, .f32⟩
  | .local _ .vmem, ⟨9, _⟩ => ⟨S512x1024, .f32⟩
  | .local _ .vmem, ⟨10, _⟩ => ⟨S512x1024, .f32⟩
  | .local _ .vmem, ⟨11, _⟩ => ⟨S1024x256, .f32⟩
  | .local _ .vmem, ⟨12, _⟩ => ⟨S1024x256, .f32⟩
  | .local _ .vmem, ⟨13, _⟩ => ⟨S512x1, .f32⟩
  | .local _ .vmem, ⟨14, _⟩ => ⟨S512x1, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x1024, .f32⟩
  | .local _ .vmem, ⟨23, _⟩ => ⟨S512x1024, .f32⟩
  | .local _ .vmem, ⟨24, _⟩ => ⟨S1024x256, .f32⟩
  | .local _ .vmem, ⟨25, _⟩ => ⟨S1024x256, .f32⟩
  | .local _ .vmem, ⟨26, _⟩ => ⟨S512x1, .f32⟩
  | .local _ .vmem, ⟨27, _⟩ => ⟨S512x1, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S256x256, .f32⟩
  | .local _ .vmem, ⟨32, _⟩ => ⟨S1x256, .f32⟩
  | .local _ .vmem, ⟨33, _⟩ => ⟨S256x256, .f32⟩
  | .local _ .vmem, ⟨34, _⟩ => ⟨S1x256, .f32⟩
  | .local _ .vmem, ⟨35, _⟩ => ⟨S256x256, .f32⟩
  | .local _ .vmem, ⟨36, _⟩ => ⟨S1x256, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | .local _ .vmem, ⟨40, _⟩ => ⟨S512x256, .f32⟩
  | .local _ .vmem, ⟨41, _⟩ => ⟨S512x256, .f32⟩
  | .local _ .vmem, ⟨42, _⟩ => ⟨S512x256, .f32⟩
  | .local _ .vmem, ⟨43, _⟩ => ⟨S512x256, .f32⟩
  | .local _ .vmem, ⟨44, _⟩ => ⟨S256x256, .f32⟩
  | .local _ .vmem, ⟨45, _⟩ => ⟨S256x256, .f32⟩
  | .local _ .vmem, ⟨46, _⟩ => ⟨S256x256, .f32⟩
  | .local _ .vmem, ⟨47, _⟩ => ⟨S1x256, .f32⟩
  | .local _ .vmem, ⟨48, _⟩ => ⟨S4096x256, .f32⟩
  | .local _ .vmem, ⟨49, _⟩ => ⟨S4096x256, .f32⟩
  | .local _ .vmem, ⟨50, _⟩ => ⟨S256x512, .f32⟩
  | .local _ .vmem, ⟨51, _⟩ => ⟨S256x512, .f32⟩
  | .local _ .vmem, ⟨52, _⟩ => ⟨S1x512, .f32⟩
  | .local _ .vmem, ⟨53, _⟩ => ⟨S512x256, .f32⟩
  | .local _ .vmem, ⟨54, _⟩ => ⟨S1x256, .f32⟩
  | .local _ .vmem, ⟨55, _⟩ => ⟨S256x256, .f32⟩
  | .local _ .vmem, ⟨56, _⟩ => ⟨S1x256, .f32⟩
  | .local _ .vmem, ⟨57, _⟩ => ⟨S256x256, .f32⟩
  | .local _ .vmem, ⟨58, _⟩ => ⟨S1x256, .f32⟩
  | .local _ .vmem, ⟨59, _⟩ => ⟨S256x256, .f32⟩
  | .local _ .vmem, ⟨60, _⟩ => ⟨S256x256, .f32⟩
  | .local _ .vmem, ⟨61, _⟩ => ⟨S256x256, .f32⟩
  | .local _ .vmem, ⟨62, _⟩ => ⟨S256x256, .f32⟩
  | .local _ .vmem, ⟨63, _⟩ => ⟨S512x256, .f32⟩
  | .local _ .vmem, ⟨64, _⟩ => ⟨S512x256, .f32⟩
  | .local _ .vmem, ⟨65, _⟩ => ⟨S1024x256, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0_0 : Ref sig .tc := ⟨.hbm, 23, rfl⟩
abbrev main_v0_1 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11_0 : Ref sig .tc := ⟨.hbm, 35, rfl⟩
abbrev main_v11_1 : Ref sig .tc := ⟨.hbm, 36, rfl⟩
abbrev main_v11_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19_0 : Ref sig .tc := ⟨.hbm, 45, rfl⟩
abbrev main_v19_1 : Ref sig .tc := ⟨.hbm, 46, rfl⟩
abbrev main_v20_0 : Ref sig .tc := ⟨.hbm, 47, rfl⟩
abbrev main_v20_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg12_1 : Ref sig .tc := ⟨.vmem, 38, rfl⟩
abbrev cc2_stg13_0 : Ref sig .tc := ⟨.vmem, 39, rfl⟩
abbrev cc2_stg13_1 : Ref sig .tc := ⟨.vmem, 40, rfl⟩
abbrev cc2_stg14_0 : Ref sig .tc := ⟨.vmem, 41, rfl⟩
abbrev cc2_stg14_1 : Ref sig .tc := ⟨.vmem, 42, rfl⟩
abbrev cc2_scratch0 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg11_0 : Ref sig .tc := ⟨.vmem, 56, rfl⟩
abbrev cc3_stg12_0 : Ref sig .tc := ⟨.vmem, 57, rfl⟩
abbrev cc3_stg13_0 : Ref sig .tc := ⟨.vmem, 58, rfl⟩
abbrev cc3_stg14_0 : Ref sig .tc := ⟨.vmem, 59, rfl⟩
abbrev cc3_stg14_1 : Ref sig .tc := ⟨.vmem, 60, rfl⟩
abbrev cc3_stg15_0 : Ref sig .tc := ⟨.vmem, 61, rfl⟩
abbrev cc3_stg15_1 : Ref sig .tc := ⟨.vmem, 62, rfl⟩
abbrev cc4_stg0_0 : Ref sig .tc := ⟨.vmem, 63, rfl⟩
abbrev cc4_stg0_1 : Ref sig .tc := ⟨.vmem, 64, rfl⟩
abbrev cc4_stg1_0 : Ref sig .tc := ⟨.vmem, 65, rfl⟩
abbrev cc4_stg2_0 : Ref sig .tc := ⟨.vmem, 66, rfl⟩
abbrev cc4_stg2_1 : Ref sig .tc := ⟨.vmem, 67, rfl⟩
abbrev cc4_stg3_0 : Ref sig .tc := ⟨.vmem, 68, rfl⟩
abbrev cc4_stg3_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem12_1 : DmaSem sig := 37
abbrev cc2_sem13_0 : DmaSem sig := 38
abbrev cc2_sem13_1 : DmaSem sig := 39
abbrev cc2_sem14_0 : DmaSem sig := 40
abbrev cc2_sem14_1 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem3_0 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem8_0 : DmaSem sig := 51
abbrev cc3_sem9_0 : DmaSem sig := 52
abbrev cc3_sem10_0 : DmaSem sig := 53
abbrev cc3_sem11_0 : DmaSem sig := 54
abbrev cc3_sem12_0 : DmaSem sig := 55
abbrev cc3_sem13_0 : DmaSem sig := 56
abbrev cc3_sem14_0 : DmaSem sig := 57
abbrev cc3_sem14_1 : DmaSem sig := 58
abbrev cc3_sem15_0 : DmaSem sig := 59
abbrev cc3_sem15_1 : DmaSem sig := 60
abbrev cc4_sem0_0 : DmaSem sig := 61
abbrev cc4_sem0_1 : DmaSem sig := 62
abbrev cc4_sem1_0 : DmaSem sig := 63
abbrev cc4_sem2_0 : DmaSem sig := 64
abbrev cc4_sem2_1 : DmaSem sig := 65
abbrev cc4_sem3_0 : DmaSem sig := 66
abbrev cc4_sem3_1 : DmaSem sig := 67

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S256x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S512x256 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, false]

abbrev stage2_13 : Fin 2 → Memref sig .tc .vmem S512x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, false]

abbrev stage2_14 : Fin 2 → Memref sig .tc .vmem S512x256 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4096x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S256x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S256x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S256x256 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S256x256 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== ReferenceIdeal.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x256 : Shape := ⟨2, ![256, 256]⟩
abbrev S1024x256 : Shape := ⟨2, ![1024, 256]⟩
abbrev S512x512 : Shape := ⟨2, ![512, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x256 : Shape := ⟨2, ![4096, 256]⟩
abbrev S1x256 : Shape := ⟨2, ![1, 256]⟩
abbrev S256x4096 : Shape := ⟨2, ![256, 4096]⟩
abbrev S1024x4096 : Shape := ⟨2, ![1024, 4096]⟩
abbrev S1024 : Shape := ⟨1, ![1024]⟩
abbrev S1024x1 : Shape := ⟨2, ![1024, 1]⟩
abbrev S1024x10 : Shape := ⟨2, ![1024, 10]⟩
abbrev S1024x10x1 : Shape := ⟨3, ![1024, 10, 1]⟩
abbrev S1024x10x2 : Shape := ⟨3, ![1024, 10, 2]⟩
abbrev S1024x512 : Shape := ⟨2, ![1024, 512]⟩
abbrev S1x512 : Shape := ⟨2, ![1, 512]⟩
abbrev S256x1024 : Shape := ⟨2, ![256, 1024]⟩
abbrev S4096x1024 : Shape := ⟨2, ![4096, 1024]⟩
abbrev S4096x10 : Shape := ⟨2, ![4096, 10]⟩
abbrev S4096x10x1 : Shape := ⟨3, ![4096, 10, 1]⟩
abbrev S4096x10x2 : Shape := ⟨3, ![4096, 10, 2]⟩

abbrev nBuf : Space → Nat
  | .hbm => 280
  | .vmem => 0
  | .smem => 0
  | _ => 0

abbrev hbmTy0_0 (i : Nat) : BufTy := match i % 128 with
  | 0 => ⟨S4096x512, .f32⟩
  | 1 => ⟨S4096x4096, .f32⟩
  | 2 => ⟨S512x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S1024x256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S512x512, .f32⟩
  | 18 => ⟨S512, .f32⟩
  | 19 => ⟨S512x256, .f32⟩
  | 20 => ⟨S256, .f32⟩
  | 21 => ⟨S256x256, .f32⟩
  | 22 => ⟨S256, .f32⟩
  | 23 => ⟨S_, .f32⟩
  | 24 => ⟨S4096, .f32⟩
  | 25 => ⟨S_, .f32⟩
  | 26 => ⟨S4096, .f32⟩
  | 27 => ⟨S4096, .f32⟩
  | 28 => ⟨S4096, .f32⟩
  | 29 => ⟨S_, .f32⟩
  | 30 => ⟨S4096, .f32⟩
  | 31 => ⟨S4096, .i1⟩
  | 32 => ⟨S_, .f32⟩
  | 33 => ⟨S_, .f32⟩
  | 34 => ⟨S4096, .f32⟩
  | 35 => ⟨S4096, .f32⟩
  | 36 => ⟨S4096x1, .f32⟩
  | 37 => ⟨S4096x4096, .f32⟩
  | 38 => ⟨S4096x4096, .f32⟩
  | 39 => ⟨S1x4096, .f32⟩
  | 40 => ⟨S4096x4096, .f32⟩
  | 41 => ⟨S4096x4096, .f32⟩
  | 42 => ⟨S4096x256, .f32⟩
  | 43 => ⟨S4096x256, .f32⟩
  | 44 => ⟨S1x256, .f32⟩
  | 45 => ⟨S4096x256, .f32⟩
  | 46 => ⟨S4096x256, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S4096x256, .f32⟩
  | 54 => ⟨S4096x256, .f32⟩
  | 55 => ⟨S4096x256, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S4096x256, .f32⟩
  | 63 => ⟨S4096x256, .f32⟩
  | 64 => ⟨S_, .f32⟩
  | 65 => ⟨S4096x1, .f32⟩
  | 66 => ⟨S4096x1, .f32⟩
  | 67 => ⟨S4096x1, .f32⟩
  | 68 => ⟨S4096x256, .f32⟩
  | 69 => ⟨S4096x256, .f32⟩
  | 70 => ⟨S1x256, .f32⟩
  | 71 => ⟨S4096x256, .f32⟩
  | 72 => ⟨S4096x256, .f32⟩
  | 73 => ⟨S1x256, .f32⟩
  | 74 => ⟨S4096x256, .f32⟩
  | 75 => ⟨S4096x256, .f32⟩
  | 76 => ⟨S_, .f32⟩
  | 77 => ⟨S4096x256, .f32⟩
  | 78 => ⟨S4096x256, .i1⟩
  | 79 => ⟨S_, .f32⟩
  | 80 => ⟨S4096x256, .f32⟩
  | 81 => ⟨S4096x256, .f32⟩
  | 82 => ⟨S4096x256, .f32⟩
  | 83 => ⟨S_, .f32⟩
  | 84 => ⟨S4096, .f32⟩
  | 85 => ⟨S_, .f32⟩
  | 86 => ⟨S4096, .f32⟩
  | 87 => ⟨S4096, .f32⟩
  | 88 => ⟨S4096, .f32⟩
  | 89 => ⟨S_, .f32⟩
  | 90 => ⟨S4096, .f32⟩
  | 91 => ⟨S4096, .i1⟩
  | 92 => ⟨S_, .f32⟩
  | 93 => ⟨S_, .f32⟩
  | 94 => ⟨S4096, .f32⟩
  | 95 => ⟨S4096, .f32⟩
  | 96 => ⟨S4096x1, .f32⟩
  | 97 => ⟨S4096x4096, .f32⟩
  | 98 => ⟨S4096x4096, .f32⟩
  | 99 => ⟨S1x4096, .f32⟩
  | 100 => ⟨S4096x4096, .f32⟩
  | 101 => ⟨S4096x4096, .f32⟩
  | 102 => ⟨S4096x256, .f32⟩
  | 103 => ⟨S4096x256, .f32⟩
  | 104 => ⟨S1x256, .f32⟩
  | 105 => ⟨S4096x256, .f32⟩
  | 106 => ⟨S4096x256, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S4096x256, .f32⟩
  | 114 => ⟨S4096x256, .f32⟩
  | 115 => ⟨S4096x256, .f32⟩
  | 116 => ⟨S_, .f32⟩
  | 117 => ⟨S4096, .f32⟩
  | 118 => ⟨S4096x1, .f32⟩
  | 119 => ⟨S_, .f32⟩
  | 120 => ⟨S4096x1, .f32⟩
  | 121 => ⟨S4096x1, .f32⟩
  | 122 => ⟨S4096x256, .f32⟩
  | 123 => ⟨S4096x256, .f32⟩
  | 124 => ⟨S_, .f32⟩
  | 125 => ⟨S4096x1, .f32⟩
  | 126 => ⟨S4096x1, .f32⟩
  | 127 => ⟨S4096x1, .f32⟩
  | _ => ⟨S4096x512, .f32⟩

abbrev hbmTy0_1 (i : Nat) : BufTy := match i % 128 with
  | 0 => ⟨S4096x256, .f32⟩
  | 1 => ⟨S4096x256, .f32⟩
  | 2 => ⟨S1x256, .f32⟩
  | 3 => ⟨S4096x256, .f32⟩
  | 4 => ⟨S4096x256, .f32⟩
  | 5 => ⟨S1x256, .f32⟩
  | 6 => ⟨S4096x256, .f32⟩
  | 7 => ⟨S4096x256, .f32⟩
  | 8 => ⟨S1024x256, .f32⟩
  | 9 => ⟨S1x256, .f32⟩
  | 10 => ⟨S1024x256, .f32⟩
  | 11 => ⟨S1024x256, .f32⟩
  | 12 => ⟨S4096x256, .f32⟩
  | 13 => ⟨S1x256, .f32⟩
  | 14 => ⟨S4096x256, .f32⟩
  | 15 => ⟨S4096x256, .f32⟩
  | 16 => ⟨S4096x256, .f32⟩
  | 17 => ⟨S1x256, .f32⟩
  | 18 => ⟨S4096x256, .f32⟩
  | 19 => ⟨S4096x256, .f32⟩
  | 20 => ⟨S256x4096, .f32⟩
  | 21 => ⟨S1024x4096, .f32⟩
  | 22 => ⟨S_, .f32⟩
  | 23 => ⟨S1024x4096, .f32⟩
  | 24 => ⟨S1024x4096, .f32⟩
  | 25 => ⟨S_, .f32⟩
  | 26 => ⟨S1024, .f32⟩
  | 27 => ⟨S_, .f32⟩
  | 28 => ⟨S1024, .f32⟩
  | 29 => ⟨S1024, .f32⟩
  | 30 => ⟨S1024x1, .f32⟩
  | 31 => ⟨S1024x4096, .f32⟩
  | 32 => ⟨S1024x4096, .f32⟩
  | 33 => ⟨S1024x4096, .f32⟩
  | 34 => ⟨S_, .f32⟩
  | 35 => ⟨S1024, .f32⟩
  | 36 => ⟨S1024x1, .f32⟩
  | 37 => ⟨S1024x4096, .f32⟩
  | 38 => ⟨S1024x4096, .f32⟩
  | 39 => ⟨S1024x10, .f32⟩
  | 40 => ⟨S1024x10, .i32⟩
  | 41 => ⟨S_, .f32⟩
  | 42 => ⟨S1024x4096, .f32⟩
  | 43 => ⟨S1024, .i32⟩
  | 44 => ⟨S1024x1, .i32⟩
  | 45 => ⟨S_, .i32⟩
  | 46 => ⟨S1024x1, .i32⟩
  | 47 => ⟨S1024x1, .i1⟩
  | 48 => ⟨S_, .i32⟩
  | 49 => ⟨S1024x1, .i32⟩
  | 50 => ⟨S1024x1, .i32⟩
  | 51 => ⟨S1024x1, .i32⟩
  | 52 => ⟨S_, .i32⟩
  | 53 => ⟨S1024x10, .i32⟩
  | 54 => ⟨S1024x10, .i1⟩
  | 55 => ⟨S_, .i32⟩
  | 56 => ⟨S1024x10, .i32⟩
  | 57 => ⟨S1024x10, .i32⟩
  | 58 => ⟨S1024x10, .i32⟩
  | 59 => ⟨S1024x10, .i32⟩
  | 60 => ⟨S1024x10x1, .i32⟩
  | 61 => ⟨S1024x10x1, .i32⟩
  | 62 => ⟨S1024x10x2, .i32⟩
  | 63 => ⟨S_, .f32⟩
  | 64 => ⟨S1024x10, .f32⟩
  | 65 => ⟨S1024x4096, .f32⟩
  | 66 => ⟨S1024x4096, .f32⟩
  | 67 => ⟨S1024x4096, .f32⟩
  | 68 => ⟨S1024x256, .f32⟩
  | 69 => ⟨S1024x512, .f32⟩
  | 70 => ⟨S1024x512, .f32⟩
  | 71 => ⟨S1x512, .f32⟩
  | 72 => ⟨S1024x512, .f32⟩
  | 73 => ⟨S1024x512, .f32⟩
  | 74 => ⟨S_, .f32⟩
  | 75 => ⟨S1024x512, .f32⟩
  | 76 => ⟨S1024x512, .i1⟩
  | 77 => ⟨S_, .f32⟩
  | 78 => ⟨S1024x512, .f32⟩
  | 79 => ⟨S1024x512, .f32⟩
  | 80 => ⟨S1024x512, .f32⟩
  | 81 => ⟨S1024x256, .f32⟩
  | 82 => ⟨S1x256, .f32⟩
  | 83 => ⟨S1024x256, .f32⟩
  | 84 => ⟨S1024x256, .f32⟩
  | 85 => ⟨S_, .f32⟩
  | 86 => ⟨S1024x256, .f32⟩
  | 87 => ⟨S1024x256, .i1⟩
  | 88 => ⟨S_, .f32⟩
  | 89 => ⟨S1024x256, .f32⟩
  | 90 => ⟨S1024x256, .f32⟩
  | 91 => ⟨S1024x256, .f32⟩
  | 92 => ⟨S1024x256, .f32⟩
  | 93 => ⟨S1x256, .f32⟩
  | 94 => ⟨S1024x256, .f32⟩
  | 95 => ⟨S1024x256, .f32⟩
  | 96 => ⟨S4096x256, .f32⟩
  | 97 => ⟨S1x256, .f32⟩
  | 98 => ⟨S4096x256, .f32⟩
  | 99 => ⟨S4096x256, .f32⟩
  | 100 => ⟨S1024x256, .f32⟩
  | 101 => ⟨S1x256, .f32⟩
  | 102 => ⟨S1024x256, .f32⟩
  | 103 => ⟨S1024x256, .f32⟩
  | 104 => ⟨S256x1024, .f32⟩
  | 105 => ⟨S4096x1024, .f32⟩
  | 106 => ⟨S_, .f32⟩
  | 107 => ⟨S4096x1024, .f32⟩
  | 108 => ⟨S4096x1024, .f32⟩
  | 109 => ⟨S_, .f32⟩
  | 110 => ⟨S4096, .f32⟩
  | 111 => ⟨S_, .f32⟩
  | 112 => ⟨S4096, .f32⟩
  | 113 => ⟨S4096, .f32⟩
  | 114 => ⟨S4096x1, .f32⟩
  | 115 => ⟨S4096x1024, .f32⟩
  | 116 => ⟨S4096x1024, .f32⟩
  | 117 => ⟨S4096x1024, .f32⟩
  | 118 => ⟨S_, .f32⟩
  | 119 => ⟨S4096, .f32⟩
  | 120 => ⟨S4096x1, .f32⟩
  | 121 => ⟨S4096x1024, .f32⟩
  | 122 => ⟨S4096x1024, .f32⟩
  | 123 => ⟨S4096x10, .f32⟩
  | 124 => ⟨S4096x10, .i32⟩
  | 125 => ⟨S_, .f32⟩
  | 126 => ⟨S4096x1024, .f32⟩
  | 127 => ⟨S4096, .i32⟩
  | _ => ⟨S4096x512, .f32⟩

abbrev hbmTy0_2 (i : Nat) : BufTy := match i % 128 with
  | 0 => ⟨S4096x1, .i32⟩
  | 1 => ⟨S_, .i32⟩
  | 2 => ⟨S4096x1, .i32⟩
  | 3 => ⟨S4096x1, .i1⟩
  | 4 => ⟨S_, .i32⟩
  | 5 => ⟨S4096x1, .i32⟩
  | 6 => ⟨S4096x1, .i32⟩
  | 7 => ⟨S4096x1, .i32⟩
  | 8 => ⟨S_, .i32⟩
  | 9 => ⟨S4096x10, .i32⟩
  | 10 => ⟨S4096x10, .i1⟩
  | 11 => ⟨S_, .i32⟩
  | 12 => ⟨S4096x10, .i32⟩
  | 13 => ⟨S4096x10, .i32⟩
  | 14 => ⟨S4096x10, .i32⟩
  | 15 => ⟨S4096x10, .i32⟩
  | 16 => ⟨S4096x10x1, .i32⟩
  | 17 => ⟨S4096x10x1, .i32⟩
  | 18 => ⟨S4096x10x2, .i32⟩
  | 19 => ⟨S_, .f32⟩
  | 20 => ⟨S4096x10, .f32⟩
  | 21 => ⟨S4096x1024, .f32⟩
  | 22 => ⟨S4096x1024, .f32⟩
  | 23 => ⟨S4096x1024, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_cst_0 : Ref sig .tc := ⟨.hbm, 25, rfl⟩
abbrev main_v1 : Ref sig .tc := ⟨.hbm, 26, rfl⟩
abbrev main_v2 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v3 : Ref sig .tc := ⟨.hbm, 31, rfl⟩
abbrev main_cst_1 : Ref sig .tc := ⟨.hbm, 32, rfl⟩
abbrev main_call1_v0 : Ref sig .tc := ⟨.hbm, 33, rfl⟩
abbrev main_call1_v1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_6 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_9 : Ref sig .tc := ⟨.hbm, 83, rfl⟩
abbrev main_v45 : Ref sig .tc := ⟨.hbm, 84, rfl⟩
abbrev main_cst_10 : Ref sig .tc := ⟨.hbm, 85, rfl⟩
abbrev main_v46 : Ref sig .tc := ⟨.hbm, 86, rfl⟩
abbrev main_v47 : Ref sig .tc := ⟨.hbm, 87, rfl⟩
abbrev main_call3_v0 : Ref sig .tc := ⟨.hbm, 88, rfl⟩
abbrev main_call3_cst : Ref sig .tc := ⟨.hbm, 89, rfl⟩
abbrev main_call3_v1 : Ref sig .tc := ⟨.hbm, 90, rfl⟩
abbrev main_v48 : Ref sig .tc := ⟨.hbm, 91, rfl⟩
abbrev main_cst_11 : Ref sig .tc := ⟨.hbm, 92, rfl⟩
abbrev main_call4_v0 : Ref sig .tc := ⟨.hbm, 93, rfl⟩
abbrev main_call4_v1 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_12 : Ref sig .tc := ⟨.hbm, 107, rfl⟩
abbrev main_v61 : Ref sig .tc := ⟨.hbm, 108, rfl⟩
abbrev main_v62 : Ref sig .tc := ⟨.hbm, 109, rfl⟩
abbrev main_cst_13 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_14 : Ref sig .tc := ⟨.hbm, 116, rfl⟩
abbrev main_v68 : Ref sig .tc := ⟨.hbm, 117, rfl⟩
abbrev main_v69 : Ref sig .tc := ⟨.hbm, 118, rfl⟩
abbrev main_cst_15 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_16 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_17 : Ref sig .tc := ⟨.hbm, 150, rfl⟩
abbrev main_v99 : Ref sig .tc := ⟨.hbm, 151, rfl⟩
abbrev main_v100 : Ref sig .tc := ⟨.hbm, 152, rfl⟩
abbrev main_cst_18 : Ref sig .tc := ⟨.hbm, 153, rfl⟩
abbrev main_v101 : Ref sig .tc := ⟨.hbm, 154, rfl⟩
abbrev main_cst_19 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_20 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_values : Ref sig .tc := ⟨.hbm, 167, rfl⟩
abbrev main_indices : Ref sig .tc := ⟨.hbm, 168, rfl⟩
abbrev main_cst_21 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_c : Ref sig .tc := ⟨.hbm, 173, rfl⟩
abbrev main_v115 : Ref sig .tc := ⟨.hbm, 174, rfl⟩
abbrev main_v116 : Ref sig .tc := ⟨.hbm, 175, rfl⟩
abbrev main_c_22 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_c_23 : Ref sig .tc := ⟨.hbm, 180, rfl⟩
abbrev main_v120 : Ref sig .tc := ⟨.hbm, 181, rfl⟩
abbrev main_v121 : Ref sig .tc := ⟨.hbm, 182, rfl⟩
abbrev main_c_24 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_25 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_cst_26 : Ref sig .tc := ⟨.hbm, 202, rfl⟩
abbrev main_v139 : Ref sig .tc := ⟨.hbm, 203, rfl⟩
abbrev main_v140 : Ref sig .tc := ⟨.hbm, 204, rfl⟩
abbrev main_cst_27 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_cst_28 : Ref sig .tc := ⟨.hbm, 213, rfl⟩
abbrev main_v148 : Ref sig .tc := ⟨.hbm, 214, rfl⟩
abbrev main_v149 : Ref sig .tc := ⟨.hbm, 215, rfl⟩
abbrev main_cst_29 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_cst_30 : Ref sig .tc := ⟨.hbm, 234, rfl⟩
abbrev main_v167 : Ref sig .tc := ⟨.hbm, 235, rfl⟩
abbrev main_v168 : Ref sig .tc := ⟨.hbm, 236, rfl⟩
abbrev main_cst_31 : Ref sig .tc := ⟨.hbm, 237, rfl⟩
abbrev main_v169 : Ref sig .tc := ⟨.hbm, 238, rfl⟩
abbrev main_cst_32 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_cst_33 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_values_34 : Ref sig .tc := ⟨.hbm, 251, rfl⟩
abbrev main_indices_35 : Ref sig .tc := ⟨.hbm, 252, rfl⟩
abbrev main_cst_36 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_c_37 : Ref sig .tc := ⟨.hbm, 257, rfl⟩
abbrev main_v183 : Ref sig .tc := ⟨.hbm, 258, rfl⟩
abbrev main_v184 : Ref sig .tc := ⟨.hbm, 259, rfl⟩
abbrev main_c_38 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_c_39 : Ref sig .tc := ⟨.hbm, 264, rfl⟩
abbrev main_v188 : Ref sig .tc := ⟨.hbm, 265, rfl⟩
abbrev main_v189 : Ref sig .tc := ⟨.hbm, 266, rfl⟩
abbrev main_c_40 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_cst_41 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩

abbrev nD : Nat := 1
abbrev τ : Topo := Topo.v7x

variable {F : FTy → Type} [FloatOps F]
-- ==== Proof.Ideal.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0 of the program: the first layer's scaling and product. Its body's triple, its proof data and its obligation,
    stated at the buffer contents `V` found when the region is entered. -/

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x4096 := Rect.unit (s := S256x4096) ![0, 0] S256x4096.size inb_S256x4096_S256x4096_0_0
abbrev r0_1 : Rect S256x1 := Rect.unit (s := S256x1) ![0, 0] S256x1.size inb_S256x1_S256x1_0_0
abbrev r0_2 : Rect S256x512 := Rect.unit (s := S256x512) ![0, 0] S256x512.size inb_S256x512_S256x512_0_0
abbrev r0_3 : Rect S512x256 := Rect.unit (s := S512x256) ![0, 0] S512x256.size inb_S512x256_S512x256_0_0
abbrev r0_4 : Rect S256x256 := Rect.unit (s := S256x256) ![0, 0] S256x256.size inb_S256x256_S256x256_0_0

def out0_3 (x0 : Vec F S256x4096 .f32) (x1 : Vec F S256x512 .f32) (x2 : Vec F S512x256 .f32) : Vec F S256x1 .f32 :=
  View.canon [⟨r0_1, k0_pay1 (View.ld x0 r0_0)⟩]

theorem cover0_3 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

def out0_4 (x0 : Vec F S256x4096 .f32) (x1 : Vec F S256x512 .f32) (x2 : Vec F S512x256 .f32) : Vec F S256x256 .f32 :=
  View.canon [⟨r0_4, k0_pay2 (View.ld x0 r0_0) (View.ld x1 r0_2) (View.ld x2 r0_3)⟩]

theorem cover0_4 (p0 : Vec F S256x256 .f32) (y : S256x256.Idx) :
    ∃ pc ∈ ([⟨r0_4, p0⟩] : List (View.Piece (Elt F) S256x256 .f32)), y ∈ pc.1.set :=
  View.cover_of_tiled [⟨r0_4, p0⟩] S256x256.size (by rfl) y

set_option maxHeartbeats 1000000 in
theorem sound_kernel0 (c : Dev nD) (E : Set ℕ) (i : grid0.Coords) (arg1 : Memref sig .tc .vmem S256x4096 .f32) (harg1 : arg1.IsWhole) (arg2 : Memref sig .tc .vmem S256x512 .f32) (harg2 : arg2.IsWhole) (arg3 : Memref sig .tc .vmem S512x256 .f32) (harg3 : arg3.IsWhole) (arg4 : Memref sig .tc .vmem S256x1 .f32) (harg4 : arg4.IsWhole) (arg5 : Memref sig .tc .vmem S256x256 .f32) (harg5 : arg5.IsWhole)
    (x0 : Vec F S256x4096 .f32) (x1 : Vec F S256x512 .f32) (x2 : Vec F S512x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__prep_kernel i arg1 harg1 arg2 harg2 arg3 harg3 arg4 harg4 arg5 harg5) K := by
  simp only [cc0__prep_kernel_eq_skeleton]; unfold cc0__prep_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Ideal.Whole.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Reading a whole buffer back after a write of the whole of it gives the value written. -/
theorem read_whole_write {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ fun y => ⟨_, List.mem_cons_self .., by
    subst h; show y ∈ (Rect.whole S).set; rw [Rect.set_whole]; exact Finset.mem_univ y⟩]
  exact View.canon_cons_unit_zero h inb w L

/-- Loading the whole of a buffer reads it. -/
theorem readAt_whole {sp : Space} {S : Shape} {e : EltTy} (v : View sig .tc sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb (v.read (Elt F) f)

/-- The offset of a whole access. -/
theorem zero2 : (![0, 0] : Fin 2 → ℕ) = fun _ => 0 := by decide

end Cert.KernelIdeal.Gen
end
-- ==== Proof.Ideal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import Idealize.ShloMosaic.Lib.VecWindow
public import proofs.«01_k».proof.Proof.Ideal.Whole

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1 of the program, the first graph layer: the body's triple in each of its three cases, its proof data and its
    obligation, at the buffer contents `V` found when the region is entered. -/

abbrev first1 (i : grid1.Coords) : Prop := (Scalar.cmpi .ne (Scalar.extui (Scalar.cmpi .eq (BitVec.ofNat 32 (i 1).val) 0#32)) 0#32) = 1#1
abbrev last1 (i : grid1.Coords) : Prop := k1_cond2 i = 1#1
/-- The first condition of the body holds at the first of each four points, -/
theorem first1_iff : ∀ t : Fin cfg1.N, first1 (grid1.coords t) ↔ t.val % 4 = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [first1, e0, e1]
    word_cmp
   : ∀ t : Fin grid1.N, first1 (grid1.coords t) ↔ t.val % 4 = 0)
/-- and the second at the last of each four. -/
theorem last1_iff : ∀ t : Fin cfg1.N, last1 (grid1.coords t) ↔ t.val % 4 = 3 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [last1, k1_cond2, e0, e1]
    word_cmp
   : ∀ t : Fin grid1.N, last1 (grid1.coords t) ↔ t.val % 4 = 3)
theorem idle1_7 : ∀ t : Fin cfg1.N, ¬last1 (grid1.coords t) → cfg1.idle 7 (grid1.coords t) = true := by decide +kernel
theorem noFlush1_7 : ∀ t : Fin cfg1.N, ¬last1 (grid1.coords t) → (cfg1.win 7).flush t = false := by decide +kernel
theorem live1_7 : ∀ t : Fin cfg1.N, last1 (grid1.coords t) → cfg1.idle 7 (grid1.coords t) = false := by decide +kernel

set_option maxHeartbeats 2000000 in
theorem sound1_A (c : Dev nD) (E : Set ℕ) (i : grid1.Coords) (arg2 : Memref sig .tc .vmem S512x1024 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S512x256 .f32) (harg10 : arg10.IsWhole)
    (hc0 : first1 i) (hc1 : ¬last1 i)
    (x0 : Vec F S512x1024 .f32) (x1 : Vec F S1024x256 .f32) (K : PUnit → sProp 𝕄) :
    iprop(owns (c : Thread nD τ) arg2 fullShare x0 ∗ owns (c : Thread nD τ) arg3 fullShare x1 ∗ (∃ d, owns (c : Thread nD τ) arg10 fullShare d)
        ∗ (iprop(owns (c : Thread nD τ) arg2 fullShare x0 ∗ owns (c : Thread nD τ) arg3 fullShare x1 ∗ owns (c : Thread nD τ) arg10 fullShare (k1_pay2 k1_pay1 x0 x1)) -∗ K ⟨⟩))
      ⊢ wp frame (wpE (defs₀ (F := F)) Variants.none c none) E (cc1__gcn1_kernel i arg2 harg2 arg3 harg3 arg4 harg4 arg5 harg5 arg6 harg6 arg7 harg7 arg8 harg8 arg9 harg9 arg10 harg10) K := by
  simp only [cc1__gcn1_kernel_eq_skeleton]; unfold cc1__gcn1_kernel_skel
  unfold owns
  iintro ⟨⟨%f0, %hf0, H0⟩, ⟨%f1, %hf1, H1⟩, ⟨%ds, %fs, -, Hs⟩, Hk⟩
  subst hf0 hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  iexists _; isplitr
  swap; · iexact Hs
  ipureintro
  refine (read_whole_write _ _ zero2 _ _ _).trans ?_
  unfold sound1_A.sl.v3 sound1_A.sl.Hs_1
  rw [View.readCov_unit_zero _ zero2]
  congr 1 <;> exact View.ld_unit_zero zero2 _ _

set_option maxHeartbeats 2000000 in
theorem sound1_B (c : Dev nD) (E : Set ℕ) (i : grid1.Coords) (arg2 : Memref sig .tc .vmem S512x1024 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S512x256 .f32) (harg10 : arg10.IsWhole)
    (hc0 : ¬first1 i) (hc1 : ¬last1 i)
    (x0 : Vec F S512x1024 .f32) (x1 : Vec F S1024x256 .f32) (xs : Vec F S512x256 .f32) (K : PUnit → sProp 𝕄) :
    iprop(owns (c : Thread nD τ) arg2 fullShare x0 ∗ owns (c : Thread nD τ) arg3 fullShare x1 ∗ owns (c : Thread nD τ) arg10 fullShare xs
        ∗ (iprop(owns (c : Thread nD τ) arg2 fullShare x0 ∗ owns (c : Thread nD τ) arg3 fullShare x1 ∗ owns (c : Thread nD τ) arg10 fullShare (k1_pay2 xs x0 x1)) -∗ K ⟨⟩))
      ⊢ wp frame (wpE (defs₀ (F := F)) Variants.none c none) E (cc1__gcn1_kernel i arg2 harg2 arg3 harg3 arg4 harg4 arg5 harg5 arg6 harg6 arg7 harg7 arg8 harg8 arg9 harg9 arg10 harg10) K := by
  simp only [cc1__gcn1_kernel_eq_skeleton]; unfold cc1__gcn1_kernel_skel
  unfold owns
  iintro ⟨⟨%f0, %hf0, H0⟩, ⟨%f1, %hf1, H1⟩, ⟨%fs, %hfs, Hs⟩, Hk⟩
  subst hf0 hf1 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  iexists _; isplitr
  swap; · iexact Hs
  ipureintro
  refine (read_whole_write _ _ zero2 _ _ _).trans ?_
  congr 1 <;> exact View.ld_unit_zero zero2 _ _

set_option maxHeartbeats 2000000 in
theorem sound1_C (c : Dev nD) (E : Set ℕ) (i : grid1.Coords) (arg2 : Memref sig .tc .vmem S512x1024 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S512x256 .f32) (harg10 : arg10.IsWhole)
    (hc0 : ¬first1 i) (hc1 : last1 i)
    (x0 : Vec F S512x1024 .f32) (x1 : Vec F S1024x256 .f32) (x2 : Vec F S512x1 .f32) (x3 : Vec F S1x256 .f32) (x4 : Vec F S1x256 .f32) (x5 : Vec F S1x256 .f32) (x6 : Vec F S256x256 .f32) (xs : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay3 (k1_pay4 x2 (k1_pay2 xs x0 x1) x3 x4 x5) x2 x6) ∗ owns (c : Thread nD τ) arg10 fullShare (k1_pay2 xs x0 x1)) -∗ K ⟨⟩))
      ⊢ wp frame (wpE (defs₀ (F := F)) Variants.none c none) E (cc1__gcn1_kernel i arg2 harg2 arg3 harg3 arg4 harg4 arg5 harg5 arg6 harg6 arg7 harg7 arg8 harg8 arg9 harg9 arg10 harg10) K := by
  simp only [cc1__gcn1_kernel_eq_skeleton, k1_part1_eq_skeleton]; unfold cc1__gcn1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, Hs⟩, Hk⟩
  subst hf0 hf1 hf2 hf3 hf4 hf5 hf6 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_whole_write _ _ zero2 _ _ _).trans ?_
    unfold sound1_C.sl.r sound1_C.sl.r_1
    rw [show sound1_C.sl.v17 c arg2 arg3 arg10 f0 f1 fs = _ from (by
      unfold sound1_C.sl.v17 sound1_C.sl.Hs_1
      exact (View.readCov_unit_zero _ zero2 _ _).trans rfl)]
    congr 2
    all_goals first | exact View.ld_unit_zero zero2 _ _ | (congr 1 <;> exact View.ld_unit_zero zero2 _ _)
  iexists _; isplitr
  swap; · iexact Hs
  ipureintro
  refine (read_whole_write _ _ zero2 _ _ _).trans ?_
  congr 1 <;> exact View.ld_unit_zero zero2 _ _

section Regions
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds before point `n`: zero at the first of each four points, then the products added one
    by one. -/
def acc1 (c : Dev nD) : ℕ → Vec F S512x256 .f32
  | 0 => k1_pay1
  | n + 1 => if h : n < cfg1.N then
      k1_pay2 (if n % 4 = 0 then k1_pay1 else acc1 c n) (iblk1 V c 0 ⟨n, h⟩) (iblk1 V c 1 ⟨n, h⟩)
    else k1_pay1

theorem acc1_first (c : Dev nD) (t : Fin cfg1.N) (h : t.val % 4 = 0) :
    acc1 V c (t.val + 1) = k1_pay2 k1_pay1 (iblk1 V c 0 t) (iblk1 V c 1 t) := by
  rw [acc1, dif_pos t.isLt, if_pos h]
theorem acc1_next (c : Dev nD) (t : Fin cfg1.N) (h : ¬t.val % 4 = 0) :
    acc1 V c (t.val + 1) = k1_pay2 (acc1 V c t.val) (iblk1 V c 0 t) (iblk1 V c 1 t) := by
  rw [acc1, dif_pos t.isLt, if_neg h]

/-- Between points: the accumulator at `acc1` except before the first of each four, where it is anything; the other
    scoped buffers and the generator register untouched. -/
def inv1 (c : Dev nD) (n : ℕ) : sProp 𝕄 :=
  iprop((∃ d, ⌜¬n % 4 = 0 → d = acc1 V c n⌝ ∗ owns (c : Thread nD τ) (Memref.whole cc1_scratch0) fullShare d)
    ∗ Pipeline.scopedRestBut (Ix := Unit) (Name := ℕ) (U := UR sig nD τ) (Lvl := ℕ) (Val := Elt F) spec1 c [cc1_scratch0]
    ∗ ∃ r, prngReg c r)

theorem inv1_in (c : Dev nD) :
    iprop(Pipeline.scopedRest (Ix := Unit) (Name := ℕ) (U := UR sig nD τ) (Lvl := ℕ) (Val := Elt F) spec1 c ∗ ∃ r, prngReg c r) ⊢ inv1 V c 0 := by
  unfold inv1; rw [scopedRest1_split]; simp only [owns_whole]
  iintro ⟨⟨⟨%f, Hs⟩, Hb⟩, Hp⟩
  isplitl [Hs]
  · iexists f; isplitr; · ipureintro; exact fun h => absurd trivial h
    iexact Hs
  isplitl [Hb]; · iexact Hb
  iexact Hp
theorem inv1_out (c : Dev nD) (n : ℕ) :
    inv1 V c n ⊢ iprop(Pipeline.scopedRest (Ix := Unit) (Name := ℕ) (U := UR sig nD τ) (Lvl := ℕ) (Val := Elt F) spec1 c ∗ ∃ r, prngReg c r) := by
  unfold inv1; rw [scopedRest1_split]; simp only [owns_whole]
  iintro ⟨⟨%d, -, Hs⟩, Hb, Hp⟩
  isplitl [Hs Hb]
  · isplitl [Hs]; · iexists d; iexact Hs
    iexact Hb
  iexact Hp

/-- The region's proof data: the arrays as the region finds them, each input's buffer at its block, each output's at
    the layer of the full accumulator, the invariant `inv1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay3 (k1_pay4 (iblk1 V c 2 t) (acc1 V c (t.val + 1)) (iblk1 V c 3 t) (iblk1 V c 4 t) (iblk1 V c 5 t)) (iblk1 V c 2 t) (iblk1 V c 6 t)
  Φ t := inv1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay3 (k1_pay4 (iblk1 V c 2 t) (acc1 V c (t.val + 1)) (iblk1 V c 3 t) (iblk1 V c 4 t) (iblk1 V c 5 t)) (iblk1 V c 2 t) (iblk1 V c 6 t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point: its case by the point's place among its four. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.castSucc = inv1 V c t.val from rfl, show (dat1 V c).Φ t.succ = inv1 V c (t.val + 1) from rfl]
  unfold inv1
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  rw [show (dat1 V c).leavesExact 6 t = owns (c : Thread nD τ) (st1_6 t) fullShare ((dat1 V c).after 6 t) from rfl, after1_6]
  by_cases h0 : t.val % 4 = 0
  · have h1 : ¬t.val % 4 = 3 := by omega
    have hl : ¬last1 (grid1.coords t) := fun h => h1 ((last1_iff t).mp h)
    rw [Dat.leavesExact_idle (dat1 V c) 7 t (idle1_7 t hl) (noFlush1_7 t hl)]
    have hf := (first1_iff t).mpr h0
    rw [acc1_first V c t h0]
    iintro ⟨⟨⟨%ds, %hd, HS⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound1_A c Set.univ (grid1.coords t) _ _ _ _ _ _ _ _ _ _ _ _ _ _ _ _ _ _ hf hl (iblk1 V c 0 t) (iblk1 V c 1 t)  _)
    isplitl [H0]; · iexact H0
    isplitl [H1]; · iexact H1
    isplitl [HS]; · iexists _; iexact HS
    iintro ⟨H0, H1, HS⟩
    isplitl [HS Hb Hg]
    · isplitl [HS]
      · iexists _; isplitr; · ipureintro; exact fun _ => rfl
        iexact HS
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 4 = 3
    · have hl : last1 (grid1.coords t) := (last1_iff t).mpr h1
      rw [show (dat1 V c).leavesExact 7 t = owns (c : Thread nD τ) (st1_7 t) fullShare ((dat1 V c).after 7 t) from by
        unfold Dat.leavesExact; rw [live1_7 t hl], after1_7]
      have hf : ¬first1 (grid1.coords t) := fun h => h0 ((first1_iff t).mp h)
      rw [acc1_next V c t h0]
      iintro ⟨⟨⟨%ds, %hd, HS⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hd h0
      iapply (sound1_C c Set.univ (grid1.coords t) _ _ _ _ _ _ _ _ _ _ _ _ _ _ _ _ _ _ hf hl (iblk1 V c 0 t) (iblk1 V c 1 t) (iblk1 V c 2 t) (iblk1 V c 3 t) (iblk1 V c 4 t) (iblk1 V c 5 t) (iblk1 V c 6 t) (acc1 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS Hb Hg]
      · isplitl [HS]
        · iexists _; isplitr; · ipureintro; exact fun _ => rfl
          iexact HS
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hl : ¬last1 (grid1.coords t) := fun h => h1 ((last1_iff t).mp h)
      rw [Dat.leavesExact_idle (dat1 V c) 7 t (idle1_7 t hl) (noFlush1_7 t hl)]
      have hf : ¬first1 (grid1.coords t) := fun h => h0 ((first1_iff t).mp h)
      rw [acc1_next V c t h0]
      iintro ⟨⟨⟨%ds, %hd, HS⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hd h0
      iapply (sound1_B c Set.univ (grid1.coords t) _ _ _ _ _ _ _ _ _ _ _ _ _ _ _ _ _ _ hf hl (iblk1 V c 0 t) (iblk1 V c 1 t) (acc1 V c t.val) _)
      isplitl [H0]; · iexact H0
      isplitl [H1]; · iexact H1
      isplitl [HS]; · iexact HS
      iintro ⟨H0, H1, HS⟩
      isplitl [HS Hb Hg]
      · isplitl [HS]
        · iexists _; isplitr; · ipureintro; exact fun _ => rfl
          iexact HS
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen
end
-- ==== Proof.Ideal.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import Idealize.ShloMosaic.Lib.VecWindow
public import proofs.«01_k».proof.Proof.Ideal.Whole

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2 of the program, the second graph layer and its three products: the body's triple in each of its three cases, its proof data and its
    obligation, at the buffer contents `V` found when the region is entered. -/

abbrev first2 (i : grid2.Coords) : Prop := (Scalar.cmpi .ne (Scalar.extui (Scalar.cmpi .eq (BitVec.ofNat 32 (i 1).val) 0#32)) 0#32) = 1#1
abbrev last2 (i : grid2.Coords) : Prop := k2_cond2 i = 1#1
/-- The first condition of the body holds at the first of each four points, -/
theorem first2_iff : ∀ t : Fin cfg2.N, first2 (grid2.coords t) ↔ t.val % 4 = 0 :=
  (fun t => by
    have ht : t.val < 32 := Nat.lt_of_lt_of_eq t.isLt N_2
    have e0 : (grid2.coords t 0).val = t.val / 4 % 8 := Pipeline.Grid.coords_val t 0 (by decide) rfl
    have e1 : (grid2.coords t 1).val = t.val / 1 % 4 := Pipeline.Grid.coords_val t 1 (by decide) rfl
    simp only [first2, e0, e1]
    word_cmp
   : ∀ t : Fin grid2.N, first2 (grid2.coords t) ↔ t.val % 4 = 0)
/-- and the second at the last of each four. -/
theorem last2_iff : ∀ t : Fin cfg2.N, last2 (grid2.coords t) ↔ t.val % 4 = 3 :=
  (fun t => by
    have ht : t.val < 32 := Nat.lt_of_lt_of_eq t.isLt N_2
    have e0 : (grid2.coords t 0).val = t.val / 4 % 8 := Pipeline.Grid.coords_val t 0 (by decide) rfl
    have e1 : (grid2.coords t 1).val = t.val / 1 % 4 := Pipeline.Grid.coords_val t 1 (by decide) rfl
    simp only [last2, k2_cond2, e0, e1]
    word_cmp
   : ∀ t : Fin grid2.N, last2 (grid2.coords t) ↔ t.val % 4 = 3)
theorem idle2_12 : ∀ t : Fin cfg2.N, ¬last2 (grid2.coords t) → cfg2.idle 12 (grid2.coords t) = true := by decide +kernel
theorem noFlush2_12 : ∀ t : Fin cfg2.N, ¬last2 (grid2.coords t) → (cfg2.win 12).flush t = false := by decide +kernel
theorem live2_12 : ∀ t : Fin cfg2.N, last2 (grid2.coords t) → cfg2.idle 12 (grid2.coords t) = false := by decide +kernel
theorem idle2_13 : ∀ t : Fin cfg2.N, ¬last2 (grid2.coords t) → cfg2.idle 13 (grid2.coords t) = true := by decide +kernel
theorem noFlush2_13 : ∀ t : Fin cfg2.N, ¬last2 (grid2.coords t) → (cfg2.win 13).flush t = false := by decide +kernel
theorem live2_13 : ∀ t : Fin cfg2.N, last2 (grid2.coords t) → cfg2.idle 13 (grid2.coords t) = false := by decide +kernel
theorem idle2_14 : ∀ t : Fin cfg2.N, ¬last2 (grid2.coords t) → cfg2.idle 14 (grid2.coords t) = true := by decide +kernel
theorem noFlush2_14 : ∀ t : Fin cfg2.N, ¬last2 (grid2.coords t) → (cfg2.win 14).flush t = false := by decide +kernel
theorem live2_14 : ∀ t : Fin cfg2.N, last2 (grid2.coords t) → cfg2.idle 14 (grid2.coords t) = false := by decide +kernel

set_option maxHeartbeats 2000000 in
theorem sound2_A (c : Dev nD) (E : Set ℕ) (i : grid2.Coords) (arg2 : Memref sig .tc .vmem S512x1024 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x256 .f32) (harg17 : arg17.IsWhole)
    (hc0 : first2 i) (hc1 : ¬last2 i)
    (x0 : Vec F S512x1024 .f32) (x1 : Vec F S1024x256 .f32) (K : PUnit → sProp 𝕄) :
    iprop(owns (c : Thread nD τ) arg2 fullShare x0 ∗ owns (c : Thread nD τ) arg3 fullShare x1 ∗ (∃ d, owns (c : Thread nD τ) arg17 fullShare d)
        ∗ (iprop(owns (c : Thread nD τ) arg2 fullShare x0 ∗ owns (c : Thread nD τ) arg3 fullShare x1 ∗ owns (c : Thread nD τ) arg17 fullShare (k2_pay2 k2_pay1 x0 x1)) -∗ K ⟨⟩))
      ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2__gcn2_kernel_eq_skeleton]; unfold cc2__gcn2_kernel_skel
  unfold owns
  iintro ⟨⟨%f0, %hf0, H0⟩, ⟨%f1, %hf1, H1⟩, ⟨%ds, %fs, -, Hs⟩, Hk⟩
  subst hf0 hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  iexists _; isplitr
  swap; · iexact Hs
  ipureintro
  refine (read_whole_write _ _ zero2 _ _ _).trans ?_
  unfold sound2_A.sl.v3 sound2_A.sl.Hs_1
  rw [View.readCov_unit_zero _ zero2]
  congr 1 <;> exact View.ld_unit_zero zero2 _ _

set_option maxHeartbeats 2000000 in
theorem sound2_B (c : Dev nD) (E : Set ℕ) (i : grid2.Coords) (arg2 : Memref sig .tc .vmem S512x1024 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x256 .f32) (harg17 : arg17.IsWhole)
    (hc0 : ¬first2 i) (hc1 : ¬last2 i)
    (x0 : Vec F S512x1024 .f32) (x1 : Vec F S1024x256 .f32) (xs : Vec F S512x256 .f32) (K : PUnit → sProp 𝕄) :
    iprop(owns (c : Thread nD τ) arg2 fullShare x0 ∗ owns (c : Thread nD τ) arg3 fullShare x1 ∗ owns (c : Thread nD τ) arg17 fullShare xs
        ∗ (iprop(owns (c : Thread nD τ) arg2 fullShare x0 ∗ owns (c : Thread nD τ) arg3 fullShare x1 ∗ owns (c : Thread nD τ) arg17 fullShare (k2_pay2 xs x0 x1)) -∗ K ⟨⟩))
      ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2__gcn2_kernel_eq_skeleton]; unfold cc2__gcn2_kernel_skel
  unfold owns
  iintro ⟨⟨%f0, %hf0, H0⟩, ⟨%f1, %hf1, H1⟩, ⟨%fs, %hfs, Hs⟩, Hk⟩
  subst hf0 hf1 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  iexists _; isplitr
  swap; · iexact Hs
  ipureintro
  refine (read_whole_write _ _ zero2 _ _ _).trans ?_
  congr 1 <;> exact View.ld_unit_zero zero2 _ _

set_option maxHeartbeats 2000000 in
theorem sound2_C (c : Dev nD) (E : Set ℕ) (i : grid2.Coords) (arg2 : Memref sig .tc .vmem S512x1024 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x256 .f32) (harg17 : arg17.IsWhole)
    (hc0 : ¬first2 i) (hc1 : last2 i)
    (x0 : Vec F S512x1024 .f32) (x1 : Vec F S1024x256 .f32) (x2 : Vec F S512x1 .f32) (x3 : Vec F S1x256 .f32) (x4 : Vec F S1x256 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k2_pay3 (k2_pay7 x2 (k2_pay2 xs x0 x1) x3 x4 x5 x6) (k2_pay8 x7)) ∗ owns (c : Thread nD τ) arg15 fullShare (k2_pay4 (k2_pay6 x2 (k2_pay2 xs x0 x1) x3 x4 x5) x8 x9) ∗ owns (c : Thread nD τ) arg16 fullShare (k2_pay5 (k2_pay6 x2 (k2_pay2 xs x0 x1) x3 x4 x5) x10 x11) ∗ owns (c : Thread nD τ) arg17 fullShare (k2_pay2 xs x0 x1)) -∗ K ⟨⟩))
      ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2__gcn2_kernel_eq_skeleton, k2_part1_eq_skeleton]; unfold cc2__gcn2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs, %hfs, Hs⟩, Hk⟩
  subst hf0 hf1 hf2 hf3 hf4 hf5 hf6 hf7 hf8 hf9 hf10 hf11 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (read_whole_write _ _ zero2 _ _ _).trans ?_
    unfold sound2_C.sl.r_1 sound2_C.sl.r_2
    rw [show sound2_C.sl.v17 c arg2 arg3 arg17 f0 f1 fs = _ from (by
      unfold sound2_C.sl.v17 sound2_C.sl.Hs_1
      exact (View.readCov_unit_zero _ zero2 _ _).trans rfl)]
    congr 2
    all_goals first | exact View.ld_unit_zero zero2 _ _ | (congr 1 <;> exact View.ld_unit_zero zero2 _ _)
  isplitl [H13]
  · iexists _; isplitr
    swap; · iexact H13
    ipureintro
    refine (read_whole_write _ _ zero2 _ _ _).trans ?_
    unfold sound2_C.sl.r
    rw [show sound2_C.sl.v17 c arg2 arg3 arg17 f0 f1 fs = _ from (by
      unfold sound2_C.sl.v17 sound2_C.sl.Hs_1
      exact (View.readCov_unit_zero _ zero2 _ _).trans rfl)]
    congr 2
    all_goals first | exact View.ld_unit_zero zero2 _ _ | (congr 1 <;> exact View.ld_unit_zero zero2 _ _)
  isplitl [H14]
  · iexists _; isplitr
    swap; · iexact H14
    ipureintro
    refine (read_whole_write _ _ zero2 _ _ _).trans ?_
    unfold sound2_C.sl.r
    rw [show sound2_C.sl.v17 c arg2 arg3 arg17 f0 f1 fs = _ from (by
      unfold sound2_C.sl.v17 sound2_C.sl.Hs_1
      exact (View.readCov_unit_zero _ zero2 _ _).trans rfl)]
    congr 2
    all_goals first | exact View.ld_unit_zero zero2 _ _ | (congr 1 <;> exact View.ld_unit_zero zero2 _ _)
  iexists _; isplitr
  swap; · iexact Hs
  ipureintro
  refine (read_whole_write _ _ zero2 _ _ _).trans ?_
  congr 1 <;> exact View.ld_unit_zero zero2 _ _

section Regions
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the accumulator holds before point `n`: zero at the first of each four points, then the products added one
    by one. -/
def acc2 (c : Dev nD) : ℕ → Vec F S512x256 .f32
  | 0 => k2_pay1
  | n + 1 => if h : n < cfg2.N then
      k2_pay2 (if n % 4 = 0 then k2_pay1 else acc2 c n) (iblk2 V c 0 ⟨n, h⟩) (iblk2 V c 1 ⟨n, h⟩)
    else k2_pay1

theorem acc2_first (c : Dev nD) (t : Fin cfg2.N) (h : t.val % 4 = 0) :
    acc2 V c (t.val + 1) = k2_pay2 k2_pay1 (iblk2 V c 0 t) (iblk2 V c 1 t) := by
  rw [acc2, dif_pos t.isLt, if_pos h]
theorem acc2_next (c : Dev nD) (t : Fin cfg2.N) (h : ¬t.val % 4 = 0) :
    acc2 V c (t.val + 1) = k2_pay2 (acc2 V c t.val) (iblk2 V c 0 t) (iblk2 V c 1 t) := by
  rw [acc2, dif_pos t.isLt, if_neg h]

/-- Between points: the accumulator at `acc2` except before the first of each four, where it is anything; the other
    scoped buffers and the generator register untouched. -/
def inv2 (c : Dev nD) (n : ℕ) : sProp 𝕄 :=
  iprop((∃ d, ⌜¬n % 4 = 0 → d = acc2 V c n⌝ ∗ owns (c : Thread nD τ) (Memref.whole cc2_scratch0) fullShare d)
    ∗ Pipeline.scopedRestBut (Ix := Unit) (Name := ℕ) (U := UR sig nD τ) (Lvl := ℕ) (Val := Elt F) spec2 c [cc2_scratch0]
    ∗ ∃ r, prngReg c r)

theorem inv2_in (c : Dev nD) :
    iprop(Pipeline.scopedRest (Ix := Unit) (Name := ℕ) (U := UR sig nD τ) (Lvl := ℕ) (Val := Elt F) spec2 c ∗ ∃ r, prngReg c r) ⊢ inv2 V c 0 := by
  unfold inv2; rw [scopedRest2_split]; simp only [owns_whole]
  iintro ⟨⟨⟨%f, Hs⟩, Hb⟩, Hp⟩
  isplitl [Hs]
  · iexists f; isplitr; · ipureintro; exact fun h => absurd trivial h
    iexact Hs
  isplitl [Hb]; · iexact Hb
  iexact Hp
theorem inv2_out (c : Dev nD) (n : ℕ) :
    inv2 V c n ⊢ iprop(Pipeline.scopedRest (Ix := Unit) (Name := ℕ) (U := UR sig nD τ) (Lvl := ℕ) (Val := Elt F) spec2 c ∗ ∃ r, prngReg c r) := by
  unfold inv2; rw [scopedRest2_split]; simp only [owns_whole]
  iintro ⟨⟨%d, -, Hs⟩, Hb, Hp⟩
  isplitl [Hs Hb]
  · isplitl [Hs]; · iexists d; iexact Hs
    iexact Hb
  iexact Hp

/-- The region's proof data: the arrays as the region finds them, each input's buffer at its block, each output's at
    the layer of the full accumulator, the invariant `inv2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => k2_pay3 (k2_pay7 (iblk2 V c 2 t) (acc2 V c (t.val + 1)) (iblk2 V c 3 t) (iblk2 V c 4 t) (iblk2 V c 5 t) (iblk2 V c 6 t)) (k2_pay8 (iblk2 V c 7 t))
    | ⟨13, _⟩ => k2_pay4 (k2_pay6 (iblk2 V c 2 t) (acc2 V c (t.val + 1)) (iblk2 V c 3 t) (iblk2 V c 4 t) (iblk2 V c 5 t)) (iblk2 V c 8 t) (iblk2 V c 9 t)
    | ⟨14, _⟩ => k2_pay5 (k2_pay6 (iblk2 V c 2 t) (acc2 V c (t.val + 1)) (iblk2 V c 3 t) (iblk2 V c 4 t) (iblk2 V c 5 t)) (iblk2 V c 10 t) (iblk2 V c 11 t)
  Φ t := inv2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = k2_pay3 (k2_pay7 (iblk2 V c 2 t) (acc2 V c (t.val + 1)) (iblk2 V c 3 t) (iblk2 V c 4 t) (iblk2 V c 5 t) (iblk2 V c 6 t)) (k2_pay8 (iblk2 V c 7 t)) := by dsimp only [dat2]
theorem after2_13 (c : Dev nD) (t : Fin cfg2.N) : (dat2 V c).after 13 t = k2_pay4 (k2_pay6 (iblk2 V c 2 t) (acc2 V c (t.val + 1)) (iblk2 V c 3 t) (iblk2 V c 4 t) (iblk2 V c 5 t)) (iblk2 V c 8 t) (iblk2 V c 9 t) := by dsimp only [dat2]
theorem after2_14 (c : Dev nD) (t : Fin cfg2.N) : (dat2 V c).after 14 t = k2_pay5 (k2_pay6 (iblk2 V c 2 t) (acc2 V c (t.val + 1)) (iblk2 V c 3 t) (iblk2 V c 4 t) (iblk2 V c 5 t)) (iblk2 V c 10 t) (iblk2 V c 11 t) := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (fun _ => rfl) (fun _ _ _ => rfl) (fun t => by rw [after2_8]; unfold Dat.blockOf iblk2; rw [A_eq2]; try rfl) t d).trans
    (by unfold Dat.fetched Dat.blockOf iblk2; rw [A_eq2]; try rfl)
theorem before2_9 (c : Dev nD) (t : Fin cfg2.N) (d) : (dat2 V c).before 9 t d = iblk2 V c 9 t :=
  ((dat2 V c).before_in_eq_fetched 9 rfl (fun _ => rfl) (fun _ _ _ => rfl) (fun t => by rw [after2_9]; unfold Dat.blockOf iblk2; rw [A_eq2]; try rfl) t d).trans
    (by unfold Dat.fetched Dat.blockOf iblk2; rw [A_eq2]; try rfl)
theorem before2_10 (c : Dev nD) (t : Fin cfg2.N) (d) : (dat2 V c).before 10 t d = iblk2 V c 10 t :=
  ((dat2 V c).before_in_eq_fetched 10 rfl (fun _ => rfl) (fun _ _ _ => rfl) (fun t => by rw [after2_10]; unfold Dat.blockOf iblk2; rw [A_eq2]; try rfl) t d).trans
    (by unfold Dat.fetched Dat.blockOf iblk2; rw [A_eq2]; try rfl)
theorem before2_11 (c : Dev nD) (t : Fin cfg2.N) (d) : (dat2 V c).before 11 t d = iblk2 V c 11 t :=
  ((dat2 V c).before_in_eq_fetched 11 rfl (fun _ => rfl) (fun _ _ _ => rfl) (fun t => by rw [after2_11]; unfold Dat.blockOf iblk2; rw [A_eq2]; try rfl) t d).trans
    (by unfold Dat.fetched Dat.blockOf iblk2; rw [A_eq2]; try rfl)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d)))
/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t
    ∗ (dat2 V c).leavesExact 13 t
    ∗ (dat2 V c).leavesExact 14 t)

set_option maxHeartbeats 4000000 in
/-- The body at any point: its case by the point's place among its four. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).owesAt () t.succ = (dat2 V c).owesAt () t.castSucc from rfl,
    show (dat2 V c).Φ t.castSucc = inv2 V c t.val from rfl, show (dat2 V c).Φ t.succ = inv2 V c (t.val + 1) from rfl]
  unfold inv2
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  rw [show (dat2 V c).leavesExact 3 t = owns (c : Thread nD τ) (st2_3 t) fullShare ((dat2 V c).after 3 t) from rfl, after2_3]
  rw [show (dat2 V c).leavesExact 4 t = owns (c : Thread nD τ) (st2_4 t) fullShare ((dat2 V c).after 4 t) from rfl, after2_4]
  rw [show (dat2 V c).leavesExact 5 t = owns (c : Thread nD τ) (st2_5 t) fullShare ((dat2 V c).after 5 t) from rfl, after2_5]
  rw [show (dat2 V c).leavesExact 6 t = owns (c : Thread nD τ) (st2_6 t) fullShare ((dat2 V c).after 6 t) from rfl, after2_6]
  rw [show (dat2 V c).leavesExact 7 t = owns (c : Thread nD τ) (st2_7 t) fullShare ((dat2 V c).after 7 t) from rfl, after2_7]
  rw [show (dat2 V c).leavesExact 8 t = owns (c : Thread nD τ) (st2_8 t) fullShare ((dat2 V c).after 8 t) from rfl, after2_8]
  rw [show (dat2 V c).leavesExact 9 t = owns (c : Thread nD τ) (st2_9 t) fullShare ((dat2 V c).after 9 t) from rfl, after2_9]
  rw [show (dat2 V c).leavesExact 10 t = owns (c : Thread nD τ) (st2_10 t) fullShare ((dat2 V c).after 10 t) from rfl, after2_10]
  rw [show (dat2 V c).leavesExact 11 t = owns (c : Thread nD τ) (st2_11 t) fullShare ((dat2 V c).after 11 t) from rfl, after2_11]
  by_cases h0 : t.val % 4 = 0
  · have h1 : ¬t.val % 4 = 3 := by omega
    have hl : ¬last2 (grid2.coords t) := fun h => h1 ((last2_iff t).mp h)
    rw [Dat.leavesExact_idle (dat2 V c) 12 t (idle2_12 t hl) (noFlush2_12 t hl)]
    rw [Dat.leavesExact_idle (dat2 V c) 13 t (idle2_13 t hl) (noFlush2_13 t hl)]
    rw [Dat.leavesExact_idle (dat2 V c) 14 t (idle2_14 t hl) (noFlush2_14 t hl)]
    have hf := (first2_iff t).mpr h0
    rw [acc2_first V c t h0]
    iintro ⟨⟨⟨%ds, %hd, HS⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (sound2_A c Set.univ (grid2.coords t) _ _ _ _ _ _ _ _ _ _ _ _ _ _ _ _ _ _ _ _ _ _ _ _ _ _ _ _ _ _ _ _ hf hl (iblk2 V c 0 t) (iblk2 V c 1 t)  _)
    isplitl [H0]; · iexact H0
    isplitl [H1]; · iexact H1
    isplitl [HS]; · iexists _; iexact HS
    iintro ⟨H0, H1, HS⟩
    isplitl [HS Hb Hg]
    · isplitl [HS]
      · iexists _; isplitr; · ipureintro; exact fun _ => rfl
        iexact HS
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists _; iexact H14
  · by_cases h1 : t.val % 4 = 3
    · have hl : last2 (grid2.coords t) := (last2_iff t).mpr h1
      rw [show (dat2 V c).leavesExact 12 t = owns (c : Thread nD τ) (st2_12 t) fullShare ((dat2 V c).after 12 t) from by
        unfold Dat.leavesExact; rw [live2_12 t hl], after2_12]
      rw [show (dat2 V c).leavesExact 13 t = owns (c : Thread nD τ) (st2_13 t) fullShare ((dat2 V c).after 13 t) from by
        unfold Dat.leavesExact; rw [live2_13 t hl], after2_13]
      rw [show (dat2 V c).leavesExact 14 t = owns (c : Thread nD τ) (st2_14 t) fullShare ((dat2 V c).after 14 t) from by
        unfold Dat.leavesExact; rw [live2_14 t hl], after2_14]
      have hf : ¬first2 (grid2.coords t) := fun h => h0 ((first2_iff t).mp h)
      rw [acc2_next V c t h0]
      iintro ⟨⟨⟨%ds, %hd, HS⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      obtain rfl := hd h0
      iapply (sound2_C c Set.univ (grid2.coords t) _ _ _ _ _ _ _ _ _ _ _ _ _ _ _ _ _ _ _ _ _ _ _ _ _ _ _ _ _ _ _ _ hf hl (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (acc2 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [HS]; · iexact HS
      iintro ⟨H0, H1, H2, H3, H4, H5, H6, H7, H8, H9, H10, H11, H12, H13, H14, HS⟩
      isplitl [HS Hb Hg]
      · isplitl [HS]
        · iexists _; isplitr; · ipureintro; exact fun _ => rfl
          iexact HS
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · have hl : ¬last2 (grid2.coords t) := fun h => h1 ((last2_iff t).mp h)
      rw [Dat.leavesExact_idle (dat2 V c) 12 t (idle2_12 t hl) (noFlush2_12 t hl)]
      rw [Dat.leavesExact_idle (dat2 V c) 13 t (idle2_13 t hl) (noFlush2_13 t hl)]
      rw [Dat.leavesExact_idle (dat2 V c) 14 t (idle2_14 t hl) (noFlush2_14 t hl)]
      have hf : ¬first2 (grid2.coords t) := fun h => h0 ((first2_iff t).mp h)
      rw [acc2_next V c t h0]
      iintro ⟨⟨⟨%ds, %hd, HS⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      obtain rfl := hd h0
      iapply (sound2_B c Set.univ (grid2.coords t) _ _ _ _ _ _ _ _ _ _ _ _ _ _ _ _ _ _ _ _ _ _ _ _ _ _ _ _ _ _ _ _ hf hl (iblk2 V c 0 t) (iblk2 V c 1 t) (acc2 V c t.val) _)
      isplitl [H0]; · iexact H0
      isplitl [H1]; · iexact H1
      isplitl [HS]; · iexact HS
      iintro ⟨H0, H1, HS⟩
      isplitl [HS Hb Hg]
      · isplitl [HS]
        · iexists _; isplitr; · ipureintro; exact fun _ => rfl
          iexact HS
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      iexists _; iexact H14

/-- The body table's row at point `t`'s slots is the body. -/
theorem defs₀_row2 (t : Fin cfg2.N) :
    defs₀ (F := F) .tc cfg2.body (cfg2.bodyArgs t (cfg2.slots t)) = bodyAt2 t := by
  unfold defs₀; rw [Defs.onTc_tc]

/-- The body's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen
end
-- ==== Proof.Ideal.Region3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 3 of the program: the patch embedding and first attention stage. Its body's triple, its proof data and its obligation,
    stated at the buffer contents `V` found when the region is entered. -/

section Regions
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S256x256 := Rect.unit (s := S256x256) ![0, 0] S256x256.size inb_S256x256_S256x256_0_0
abbrev r3_1 : Rect S1x256 := Rect.unit (s := S1x256) ![0, 0] S1x256.size inb_S1x256_S1x256_0_0
abbrev r3_2 : Rect S4096x256 := Rect.unit (s := S4096x256) ![0, 0] S4096x256.size inb_S4096x256_S4096x256_0_0
abbrev r3_3 : Rect S256x512 := Rect.unit (s := S256x512) ![0, 0] S256x512.size inb_S256x512_S256x512_0_0
abbrev r3_4 : Rect S1x512 := Rect.unit (s := S1x512) ![0, 0] S1x512.size inb_S1x512_S1x512_0_0
abbrev r3_5 : Rect S512x256 := Rect.unit (s := S512x256) ![0, 0] S512x256.size inb_S512x256_S512x256_0_0

/-- The column number of every entry of a row of scores. -/
def col3 : IVec S256x4096 32 := iota .tc S256x4096 32 [1] iota_S256x4096_d1_w32
/-- The places chosen by the first rounds of the selection, as the kernel carries them between its parts. -/
def pick3a (x0 : Vec F S256x256 .f32) (x1 : Vec F S256x256 .f32) (x2 : Vec F S1x256 .f32) (x3 : Vec F S4096x256 .f32) : IVec S256x4096 1 :=
  k3_pay7 (k3_pay3 x0 x1 x2 x3) col3 (k3_pay4 x0 x1 x2 x3) (k3_pay5 x0 x1 x2 x3) (k3_pay6 x0 x1 x2 x3)
/-- The column the next round chooses. -/
def pick3b (x0 : Vec F S256x256 .f32) (x1 : Vec F S256x256 .f32) (x2 : Vec F S1x256 .f32) (x3 : Vec F S4096x256 .f32) : IVec S256x1 32 :=
  k3_pay8 (k3_pay3 x0 x1 x2 x3) col3 (k3_pay4 x0 x1 x2 x3) (k3_pay5 x0 x1 x2 x3) (k3_pay6 x0 x1 x2 x3)
/-- The hidden layer before its rectifier. -/
def hid3 (x0 : Vec F S256x256 .f32) (x1 : Vec F S256x256 .f32) (x2 : Vec F S1x256 .f32) (x3 : Vec F S4096x256 .f32) (x4 : Vec F S4096x256 .f32) (x5 : Vec F S256x512 .f32) (x6 : Vec F S256x512 .f32) (x7 : Vec F S1x512 .f32) : FVec F S256x512 .f32 :=
  k3_pay12 x0 (k3_pay3 x0 x1 x2 x3) col3 (k3_pay9 (k3_pay3 x0 x1 x2 x3) col3 (pick3a x0 x1 x2 x3) (pick3b x0 x1 x2 x3))
    (k3_pay10 (k3_pay3 x0 x1 x2 x3) col3 (pick3a x0 x1 x2 x3) (pick3b x0 x1 x2 x3))
    (k3_pay11 (k3_pay3 x0 x1 x2 x3) col3 (pick3a x0 x1 x2 x3) (pick3b x0 x1 x2 x3)) x4 x5 x6 x7
/-- Where the hidden layer is not negative. -/
def pos3 (x0 : Vec F S256x256 .f32) (x1 : Vec F S256x256 .f32) (x2 : Vec F S1x256 .f32) (x3 : Vec F S4096x256 .f32) (x4 : Vec F S4096x256 .f32) (x5 : Vec F S256x512 .f32) (x6 : Vec F S256x512 .f32) (x7 : Vec F S1x512 .f32) : IVec S256x512 1 :=
  k3_pay13 x0 (k3_pay3 x0 x1 x2 x3) col3 (k3_pay9 (k3_pay3 x0 x1 x2 x3) col3 (pick3a x0 x1 x2 x3) (pick3b x0 x1 x2 x3))
    (k3_pay10 (k3_pay3 x0 x1 x2 x3) col3 (pick3a x0 x1 x2 x3) (pick3b x0 x1 x2 x3))
    (k3_pay11 (k3_pay3 x0 x1 x2 x3) col3 (pick3a x0 x1 x2 x3) (pick3b x0 x1 x2 x3)) x4 x5 x6 x7

def out3_14 (x0 : Vec F S256x256 .f32) (x1 : Vec F S256x256 .f32) (x2 : Vec F S1x256 .f32) (x3 : Vec F S4096x256 .f32) (x4 : Vec F S4096x256 .f32) (x5 : Vec F S256x512 .f32) (x6 : Vec F S256x512 .f32) (x7 : Vec F S1x512 .f32) (x8 : Vec F S512x256 .f32) (x9 : Vec F S1x256 .f32) (x10 : Vec F S256x256 .f32) (x11 : Vec F S1x256 .f32) (x12 : Vec F S256x256 .f32) (x13 : Vec F S1x256 .f32) : Vec F S256x256 .f32 :=
  View.canon [⟨r3_0, k3_pay1 (hid3 (View.ld x0 r3_0) (View.ld x1 r3_0) (View.ld x2 r3_1) (View.ld x3 r3_2) (View.ld x4 r3_2) (View.ld x5 r3_3) (View.ld x6 r3_3) (View.ld x7 r3_4)) (pos3 (View.ld x0 r3_0) (View.ld x1 r3_0) (View.ld x2 r3_1) (View.ld x3 r3_2) (View.ld x4 r3_2) (View.ld x5 r3_3) (View.ld x6 r3_3) (View.ld x7 r3_4)) k3_pay14 (View.ld x8 r3_5) (View.ld x9 r3_1) (View.ld x10 r3_0) (View.ld x11 r3_1)⟩]

theorem cover3_14 (p0 : Vec F S256x256 .f32) (y : S256x256.Idx) :
    ∃ pc ∈ ([⟨r3_0, p0⟩] : List (View.Piece (Elt F) S256x256 .f32)), y ∈ pc.1.set :=
  View.cover_of_tiled [⟨r3_0, p0⟩] S256x256.size (by rfl) y

def out3_15 (x0 : Vec F S256x256 .f32) (x1 : Vec F S256x256 .f32) (x2 : Vec F S1x256 .f32) (x3 : Vec F S4096x256 .f32) (x4 : Vec F S4096x256 .f32) (x5 : Vec F S256x512 .f32) (x6 : Vec F S256x512 .f32) (x7 : Vec F S1x512 .f32) (x8 : Vec F S512x256 .f32) (x9 : Vec F S1x256 .f32) (x10 : Vec F S256x256 .f32) (x11 : Vec F S1x256 .f32) (x12 : Vec F S256x256 .f32) (x13 : Vec F S1x256 .f32) : Vec F S256x256 .f32 :=
  View.canon [⟨r3_0, k3_pay2 (hid3 (View.ld x0 r3_0) (View.ld x1 r3_0) (View.ld x2 r3_1) (View.ld x3 r3_2) (View.ld x4 r3_2) (View.ld x5 r3_3) (View.ld x6 r3_3) (View.ld x7 r3_4)) (pos3 (View.ld x0 r3_0) (View.ld x1 r3_0) (View.ld x2 r3_1) (View.ld x3 r3_2) (View.ld x4 r3_2) (View.ld x5 r3_3) (View.ld x6 r3_3) (View.ld x7 r3_4)) k3_pay14 (View.ld x8 r3_5) (View.ld x9 r3_1) (View.ld x10 r3_0) (View.ld x11 r3_1) (View.ld x12 r3_0) (View.ld x13 r3_1)⟩]

theorem cover3_15 (p0 : Vec F S256x256 .f32) (y : S256x256.Idx) :
    ∃ pc ∈ ([⟨r3_0, p0⟩] : List (View.Piece (Elt F) S256x256 .f32)), y ∈ pc.1.set :=
  View.cover_of_tiled [⟨r3_0, p0⟩] S256x256.size (by rfl) y

set_option maxHeartbeats 1000000 in
theorem sound_kernel3 (c : Dev nD) (E : Set ℕ) (i : grid3.Coords) (arg1 : Memref sig .tc .vmem S256x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S512x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S256x256 .f32) (harg15 : arg15.IsWhole) (arg16 : Memref sig .tc .vmem S256x256 .f32) (harg16 : arg16.IsWhole)
    (x0 : Vec F S256x256 .f32) (x1 : Vec F S256x256 .f32) (x2 : Vec F S1x256 .f32) (x3 : Vec F S4096x256 .f32) (x4 : Vec F S4096x256 .f32) (x5 : Vec F S256x512 .f32) (x6 : Vec F S256x512 .f32) (x7 : Vec F S1x512 .f32) (x8 : Vec F S512x256 .f32) (x9 : Vec F S1x256 .f32) (x10 : Vec F S256x256 .f32) (x11 : Vec F S1x256 .f32) (x12 : Vec F S256x256 .f32) (x13 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out3_14 x0 x1 x2 x3 x4 x5 x6 x7 x8 x9 x10 x11 x12 x13) ∗ owns (c : Thread nD τ) arg16 fullShare (out3_15 x0 x1 x2 x3 x4 x5 x6 x7 x8 x9 x10 x11 x12 x13)) -∗ K ⟨⟩))
      ⊢ wp frame (wpE (defs₀ (F := F)) Variants.none c none) E (cc3__attn1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc3__attn1_kernel_eq_skeleton]; unfold cc3__attn1_kernel_skel
  simp only [k3_part1_eq_skeleton, k3_part2_eq_skeleton, k3_part3_eq_skeleton, k3_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover3_14 _)).trans ?_
    rfl
  iexists _; isplitr
  swap; · iexact H15
  ipureintro
  refine (View.read_writes_eq_canon _ _ _ (cover3_15 _)).trans ?_
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨15, _⟩ => out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨_ + 16, h⟩ => absurd h (Nat.not_lt.2 (Nat.le_add_left _ _))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]
theorem after3_15 (c : Dev nD) (t : Fin cfg3.N) : (dat3 V c).after 15 t = out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel3 c Set.univ (grid3.coords t) _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Ideal.Region4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 4 of the program: the second attention stage. Its body's triple, its proof data and its obligation,
    stated at the buffer contents `V` found when the region is entered. -/

section Regions
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S512x256 := Rect.unit (s := S512x256) ![0, 0] S512x256.size inb_S512x256_S512x256_0_0
abbrev r4_1 : Rect S1024x256 := Rect.unit (s := S1024x256) ![0, 0] S1024x256.size inb_S1024x256_S1024x256_0_0
abbrev r4_2 : Rect S512x1024 := Rect.unit (s := S512x1024) ![0, 0] S512x1024.size inb_S512x1024_S512x1024_0_0

def k4_pay9 (x0 : Vec F S512x256 .f32) (x1 : Vec F S1024x256 .f32) : IVec S512x1024 32 :=
  iota .tc S512x1024 32 [1] iota_S512x1024_d1_w32 -- `v16`
def k4_pay10 (x0 : Vec F S512x256 .f32) (x1 : Vec F S1024x256 .f32) : FVec F S512x1024 .f32 :=
  k4_pay2 (View.ld x0 r4_0) (View.ld x1 r4_1) -- `v14`
def k4_pay11 (x0 : Vec F S512x256 .f32) (x1 : Vec F S1024x256 .f32) : IVec S512x1024 1 :=
  k4_pay3 (View.ld x0 r4_0) (View.ld x1 r4_1) -- `v30`
def k4_pay12 (x0 : Vec F S512x256 .f32) (x1 : Vec F S1024x256 .f32) : IVec S512x1024 32 :=
  k4_pay4 (View.ld x0 r4_0) (View.ld x1 r4_1) -- `v38`
def k4_pay13 (x0 : Vec F S512x256 .f32) (x1 : Vec F S1024x256 .f32) : IVec S512x1024 1 :=
  k4_pay5 (k4_pay10 x0 x1) (k4_pay9 x0 x1) (k4_pay11 x0 x1) (k4_pay12 x0 x1) -- `v82`
def k4_pay14 (x0 : Vec F S512x256 .f32) (x1 : Vec F S1024x256 .f32) : FVec F S512x1024 .f32 :=
  k4_pay6 (k4_pay10 x0 x1) (k4_pay9 x0 x1) (k4_pay11 x0 x1) (k4_pay12 x0 x1) -- `v84`

def out4_2 (x0 : Vec F S512x256 .f32) (x1 : Vec F S1024x256 .f32) : Vec F S512x1024 .f32 :=
  View.canon [⟨r4_2, k4_pay2 (View.ld x0 r4_0) (View.ld x1 r4_1)⟩]

theorem cover4_2 (p0 : Vec F S512x1024 .f32) (y : S512x1024.Idx) :
    ∃ pc ∈ ([⟨r4_2, p0⟩] : List (View.Piece (Elt F) S512x1024 .f32)), y ∈ pc.1.set :=
  View.cover_of_tiled [⟨r4_2, p0⟩] S512x1024.size (by rfl) y

def out4_3 (x0 : Vec F S512x256 .f32) (x1 : Vec F S1024x256 .f32) : Vec F S512x1024 .f32 :=
  View.canon [⟨r4_2, k4_pay1 (k4_pay10 x0 x1) (k4_pay9 x0 x1) (k4_pay7 (k4_pay10 x0 x1) (k4_pay9 x0 x1) (k4_pay13 x0 x1) (k4_pay14 x0 x1)) (k4_pay8 (k4_pay10 x0 x1) (k4_pay9 x0 x1) (k4_pay13 x0 x1) (k4_pay14 x0 x1))⟩]

theorem cover4_3 (p0 : Vec F S512x1024 .f32) (y : S512x1024.Idx) :
    ∃ pc ∈ ([⟨r4_2, p0⟩] : List (View.Piece (Elt F) S512x1024 .f32)), y ∈ pc.1.set :=
  View.cover_of_tiled [⟨r4_2, p0⟩] S512x1024.size (by rfl) y

set_option maxHeartbeats 1000000 in
theorem sound_kernel4 (c : Dev nD) (E : Set ℕ) (i : grid4.Coords) (arg1 : Memref sig .tc .vmem S512x256 .f32) (harg1 : arg1.IsWhole) (arg2 : Memref sig .tc .vmem S1024x256 .f32) (harg2 : arg2.IsWhole) (arg3 : Memref sig .tc .vmem S512x1024 .f32) (harg3 : arg3.IsWhole) (arg4 : Memref sig .tc .vmem S512x1024 .f32) (harg4 : arg4.IsWhole)
    (x0 : Vec F S512x256 .f32) (x1 : Vec F S1024x256 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out4_2 x0 x1) ∗ owns (c : Thread nD τ) arg4 fullShare (out4_3 x0 x1)) -∗ K ⟨⟩))
      ⊢ wp frame (wpE (defs₀ (F := F)) Variants.none c none) E (cc4__attn2_kernel i arg1 harg1 arg2 harg2 arg3 harg3 arg4 harg4) K := by
  simp only [cc4__attn2_kernel_eq_skeleton]; unfold cc4__attn2_kernel_skel
  simp only [k4_part1_eq_skeleton, k4_part2_eq_skeleton, k4_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover4_2 _)).trans ?_
    rfl
  iexists _; isplitr
  swap; · iexact H3
  ipureintro
  refine (View.read_writes_eq_canon _ _ _ (cover4_3 _)).trans ?_
  rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => out4_3 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = out4_3 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.Ideal.Run.lean ====
module

public import proofs.«01_k».proof.Proof.Ideal.Region0
public import proofs.«01_k».proof.Proof.Ideal.Region1
public import proofs.«01_k».proof.Proof.Ideal.Region2
public import proofs.«01_k».proof.Proof.Ideal.Region3
public import proofs.«01_k».proof.Proof.Ideal.Region4

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole run: the five regions and the host operations between them as segments, from the launch to the return.
    Every buffer's contents at each boundary is a fold from the launch memory. -/

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5, main_arg6, main_arg7,
    main_arg8, main_arg9, main_arg10, main_arg11, main_arg12, main_arg13, main_arg14, main_arg15,
    main_arg16, main_arg17, main_arg18, main_arg19, main_arg20, main_arg21, main_arg22]
theorem fresh1 : (hostOps1 : List (HloOp τ sig (Elt F))).Forall fun op => op.fresh = ∅ := by
  simp only [List.Forall]; repeat' constructor
/-- The references the host operations of stretch 1 write, in order. -/
abbrev wrote1 : List (Ref sig .tc) := [main_v1, main_v2, main_v3]
theorem writes1 : (hostOps1 : List (HloOp τ sig (Elt F))).Forall fun op => op.writes ⊆ (wrote1.map (Proc.devRef (τ := τ) .tc)).toFinset :=
  StableHlo.forall_writes_sub_of_map rfl
theorem wrote1_args : ∀ a ∈ argRefs, a ∉ wrote1 := ListAll.forall_mem_of_all_decide (by decide +kernel)
theorem fresh2 : (hostOps2 : List (HloOp τ sig (Elt F))).Forall fun op => op.fresh = ∅ := by
  simp only [List.Forall]; repeat' constructor
/-- The references the host operations of stretch 2 write, in order. -/
abbrev wrote2 : List (Ref sig .tc) := [main_v5, main_v6, main_v7, main_v8, main_v9, main_v10]
theorem writes2 : (hostOps2 : List (HloOp τ sig (Elt F))).Forall fun op => op.writes ⊆ (wrote2.map (Proc.devRef (τ := τ) .tc)).toFinset :=
  StableHlo.forall_writes_sub_of_map rfl
theorem wrote2_args : ∀ a ∈ argRefs, a ∉ wrote2 := ListAll.forall_mem_of_all_decide (by decide +kernel)
theorem fresh3 : (hostOps3 : List (HloOp τ sig (Elt F))).Forall fun op => op.fresh = ∅ := by
  simp only [List.Forall]; repeat' constructor
/-- The references the host operations of stretch 3 write, in order. -/
abbrev wrote3 : List (Ref sig .tc) := [main_v12, main_v13, main_v14, main_v15, main_v16, main_v17, main_v18]
theorem writes3 : (hostOps3 : List (HloOp τ sig (Elt F))).Forall fun op => op.writes ⊆ (wrote3.map (Proc.devRef (τ := τ) .tc)).toFinset :=
  StableHlo.forall_writes_sub_of_map rfl
theorem wrote3_args : ∀ a ∈ argRefs, a ∉ wrote3 := ListAll.forall_mem_of_all_decide (by decide +kernel)

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
theorem W0_args (c : Dev nD) : ∀ a ∈ argRefs, W0 m c (Proc.devRef .tc a) = m ((c : Thread nD τ).loc a) := fun _ _ => rfl

/-- At region 0's exit: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- A reference that is no output array of region 0 keeps its contents across it. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((dat0 (V0 m) c).arrAt_in w (h w rfl) _).trans (A_eq0 (V0 m) c w))
  · exact W1_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m c (Proc.devRef .tc a) = m ((c : Thread nD τ).loc a) :=
  fun a ha => (W1_of m c a (argsIn0 a ha)).trans (W0_args m c a ha)
abbrev V1 : (c : Dev nD) → (b : Ref sig .tc) → Buf (Elt F) ((c : Thread nD τ).loc b) := fun c b => W1 m c b
theorem arrays0 (c : Dev nD) (w : Fin cfg0.W) : (dat0 (V0 m) c).arrAt w cfg0.N = V1 m c (Pipeline.arrRef spec0 w) :=
  (W1_arr m c w).symm
theorem others0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After host stretch 1. -/
abbrev W2 : Dev nD → Valuation τ sig (Elt F) := fun c => StableHlo.after hostOps1 (W1 m c)
theorem W2_of (c : Dev nD) (r : Ref sig .tc) (h : r ∉ wrote1) : W2 m c (Proc.devRef .tc r) = W1 m c (Proc.devRef .tc r) :=
  StableHlo.after_of_writes_sub hostOps1 _ writes1 h
theorem W2_args (c : Dev nD) : ∀ a ∈ argRefs, W2 m c (Proc.devRef .tc a) = m ((c : Thread nD τ).loc a) :=
  fun a ha => (W2_of m c a (wrote1_args a ha)).trans (W1_args m c a ha)
abbrev V2 : (c : Dev nD) → (b : Ref sig .tc) → Buf (Elt F) ((c : Thread nD τ).loc b) := fun c b => W2 m c b

/-- At region 1's exit: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A reference that is no output array of region 1 keeps its contents across it. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (V2 m) c).arrAt_in w (h w rfl) _).trans (A_eq1 (V2 m) c w))
  · exact W3_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m c (Proc.devRef .tc a) = m ((c : Thread nD τ).loc a) :=
  fun a ha => (W3_of m c a (argsIn1 a ha)).trans (W2_args m c a ha)
abbrev V3 : (c : Dev nD) → (b : Ref sig .tc) → Buf (Elt F) ((c : Thread nD τ).loc b) := fun c b => W3 m c b
theorem arrays1 (c : Dev nD) (w : Fin cfg1.W) : (dat1 (V2 m) c).arrAt w cfg1.N = V3 m c (Pipeline.arrRef spec1 w) :=
  (W3_arr m c w).symm
theorem others1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After host stretch 2. -/
abbrev W4 : Dev nD → Valuation τ sig (Elt F) := fun c => StableHlo.after hostOps2 (W3 m c)
theorem W4_of (c : Dev nD) (r : Ref sig .tc) (h : r ∉ wrote2) : W4 m c (Proc.devRef .tc r) = W3 m c (Proc.devRef .tc r) :=
  StableHlo.after_of_writes_sub hostOps2 _ writes2 h
theorem W4_args (c : Dev nD) : ∀ a ∈ argRefs, W4 m c (Proc.devRef .tc a) = m ((c : Thread nD τ).loc a) :=
  fun a ha => (W4_of m c a (wrote2_args a ha)).trans (W3_args m c a ha)
abbrev V4 : (c : Dev nD) → (b : Ref sig .tc) → Buf (Elt F) ((c : Thread nD τ).loc b) := fun c b => W4 m c b

/-- At region 2's exit: its arrays at what its write-backs leave, every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- A reference that is no output array of region 2 keeps its contents across it. -/
theorem W5_of (c : Dev nD) (r : Ref sig .tc) (h : ∀ w : Fin cfg2.W, Pipeline.arrRef spec2 w = r → (cfg2.win w).isOut = false) :
    W5 m c (Proc.devRef .tc r) = W4 m c (Proc.devRef .tc r) := by
  by_cases hw : ∃ w : Fin cfg2.W, Pipeline.arrRef spec2 w = r
  · obtain ⟨w, rfl⟩ := hw
    exact (W5_arr m c w).trans (((dat2 (V4 m) c).arrAt_in w (h w rfl) _).trans (A_eq2 (V4 m) c w))
  · exact W5_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m c (Proc.devRef .tc a) = m ((c : Thread nD τ).loc a) :=
  fun a ha => (W5_of m c a (argsIn2 a ha)).trans (W4_args m c a ha)
abbrev V5 : (c : Dev nD) → (b : Ref sig .tc) → Buf (Elt F) ((c : Thread nD τ).loc b) := fun c b => W5 m c b
theorem arrays2 (c : Dev nD) (w : Fin cfg2.W) : (dat2 (V4 m) c).arrAt w cfg2.N = V5 m c (Pipeline.arrRef spec2 w) :=
  (W5_arr m c w).symm
theorem others2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After host stretch 3. -/
abbrev W6 : Dev nD → Valuation τ sig (Elt F) := fun c => StableHlo.after hostOps3 (W5 m c)
theorem W6_of (c : Dev nD) (r : Ref sig .tc) (h : r ∉ wrote3) : W6 m c (Proc.devRef .tc r) = W5 m c (Proc.devRef .tc r) :=
  StableHlo.after_of_writes_sub hostOps3 _ writes3 h
theorem W6_args (c : Dev nD) : ∀ a ∈ argRefs, W6 m c (Proc.devRef .tc a) = m ((c : Thread nD τ).loc a) :=
  fun a ha => (W6_of m c a (wrote3_args a ha)).trans (W5_args m c a ha)
abbrev V6 : (c : Dev nD) → (b : Ref sig .tc) → Buf (Elt F) ((c : Thread nD τ).loc b) := fun c b => W6 m c b

/-- At region 3's exit: its arrays at what its write-backs leave, every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- A reference that is no output array of region 3 keeps its contents across it. -/
theorem W7_of (c : Dev nD) (r : Ref sig .tc) (h : ∀ w : Fin cfg3.W, Pipeline.arrRef spec3 w = r → (cfg3.win w).isOut = false) :
    W7 m c (Proc.devRef .tc r) = W6 m c (Proc.devRef .tc r) := by
  by_cases hw : ∃ w : Fin cfg3.W, Pipeline.arrRef spec3 w = r
  · obtain ⟨w, rfl⟩ := hw
    exact (W7_arr m c w).trans (((dat3 (V6 m) c).arrAt_in w (h w rfl) _).trans (A_eq3 (V6 m) c w))
  · exact W7_of_ne m c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m c (Proc.devRef .tc a) = m ((c : Thread nD τ).loc a) :=
  fun a ha => (W7_of m c a (argsIn3 a ha)).trans (W6_args m c a ha)
abbrev V7 : (c : Dev nD) → (b : Ref sig .tc) → Buf (Elt F) ((c : Thread nD τ).loc b) := fun c b => W7 m c b
theorem arrays3 (c : Dev nD) (w : Fin cfg3.W) : (dat3 (V6 m) c).arrAt w cfg3.N = V7 m c (Pipeline.arrRef spec3 w) :=
  (W7_arr m c w).symm
theorem others3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- At region 4's exit: its arrays at what its write-backs leave, every other buffer as entered. -/
def W8 (c : Dev nD) : Valuation τ sig (Elt F) :=
  Pipeline.withArrays spec4 c (W7 m c) fun w => (dat4 (V7 m) c).arrAt w cfg4.N
theorem W8_arr (c : Dev nD) (w : Fin cfg4.W) :
    W8 m c (Proc.devRef .tc (Pipeline.arrRef spec4 w)) = (dat4 (V7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
/-- A reference that is no output array of region 4 keeps its contents across it. -/
theorem W8_of (c : Dev nD) (r : Ref sig .tc) (h : ∀ w : Fin cfg4.W, Pipeline.arrRef spec4 w = r → (cfg4.win w).isOut = false) :
    W8 m c (Proc.devRef .tc r) = W7 m c (Proc.devRef .tc r) := by
  by_cases hw : ∃ w : Fin cfg4.W, Pipeline.arrRef spec4 w = r
  · obtain ⟨w, rfl⟩ := hw
    exact (W8_arr m c w).trans (((dat4 (V7 m) c).arrAt_in w (h w rfl) _).trans (A_eq4 (V7 m) c w))
  · exact W8_of_ne m c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W8_args (c : Dev nD) : ∀ a ∈ argRefs, W8 m c (Proc.devRef .tc a) = m ((c : Thread nD τ).loc a) :=
  fun a ha => (W8_of m c a (argsIn4 a ha)).trans (W7_args m c a ha)
abbrev V8 : (c : Dev nD) → (b : Ref sig .tc) → Buf (Elt F) ((c : Thread nD τ).loc b) := fun c b => W8 m c b
theorem arrays4 (c : Dev nD) (w : Fin cfg4.W) : (dat4 (V7 m) c).arrAt w cfg4.N = V8 m c (Pipeline.arrRef spec4 w) :=
  (W8_arr m c w).symm
theorem others4 (c : Dev nD) : ∀ b, b ∉ Finset.univ.image (Pipeline.arrRef spec4) → V8 m c b = V7 m c b :=
  fun b hb => W8_of_ne m c b fun w e => hb (Finset.mem_image.mpr ⟨w, Finset.mem_univ _, e⟩)

/-- No pipeline has a prefetched table. -/
abbrev adm : (p : Fin 5) → (pcfgs (F := F) p).Adm := fun p => (cfgs p).toPCfg_adm
/-- Every pipeline's proof data at its region's entry contents. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
  | ⟨3, _⟩ => fun c => dat3 (V6 m) c
  | ⟨4, _⟩ => fun c => dat4 (V7 m) c
abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W8 m c) ∗ ∃ r, prngReg c r)

set_option backward.isDefEq.respectTransparency.types false in
/-- Region 0 as a segment: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A_eq0 (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (arrays0 m c) (others0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = inv1 (V2 m) c 0 from rfl]
    iintro ⟨Hp, -, Hr⟩
    iapply (inv1_in (V2 m) c)
    isplitl [Hr]; · iexact Hr
    iexact Hp
  hout c := by
    rw [Pipeline.ownSems0_none, show (pdats m 1 c).Φ (Fin.last _) = inv1 (V2 m) c cfg1.N from rfl]
    iintro HΦ
    ihave H := inv1_out (V2 m) c cfg1.N $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (arrays1 m c) (others1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W4`, left at `W5`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) (A_eq2 (V4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = inv2 (V4 m) c 0 from rfl]
    iintro ⟨Hp, -, Hr⟩
    iapply (inv2_in (V4 m) c)
    isplitl [Hr]; · iexact Hr
    iexact Hp
  hout c := by
    rw [Pipeline.ownSems0_none, show (pdats m 2 c).Φ (Fin.last _) = inv2 (V4 m) c cfg2.N from rfl]
    iintro HΦ
    ihave H := inv2_out (V4 m) c cfg2.N $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (arrays2 m c) (others2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at `W6`, left at `W7`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) (A_eq3 (V6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (arrays3 m c) (others3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at `W7`, left at `W8`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V7 m c) (A_eq4 (V7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V7 m c) (V8 m c) ((pdats m 4 c).arrAt · cfg4.N) (arrays4 m c) (others4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's eight segments in order. -/
abbrev segs : List (Pipeline.Seg (pcfgs (F := F)) adm (pdats m) () defs₀ 𝒱₀ L lv) :=
  [ .region (reg0 m),
    .host (hseg hostOps1 hostOps1_sub fresh1 (W1 m)),
    .region (reg1 m),
    .host (hseg hostOps2 hostOps2_sub fresh2 (W3 m)),
    .region (reg2 m),
    .host (hseg hostOps3 hostOps3_sub fresh3 (W5 m)),
    .region (reg3 m),
    .region (reg4 m) ]
theorem main_run (c : Dev nD) : main (F := F) c = Pipeline.Seg.run (segs m) := (main_chain c).trans (by chain_rfl)
theorem no_unscoped : ∀ sm : SemLoc sig, sm.isScoped .tc = true := by decide

set_option backward.isDefEq.respectTransparency.types false in
/-- From any memory with zero counters every weakly fair execution terminates without fault, leaves every unscoped
    buffer at the last boundary's contents and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W8 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h hz => ⟨h, funext fun g => hz g (.inr (no_unscoped g.2))⟩)

/-- Every argument array ends as launched. -/
theorem args_kept (c : Dev nD) (s : (ℓ : Loc nD τ sig) → Buf (Elt F) ℓ) (h : ∀ b ∈ Pipeline.ucRefs τ sig, s (((c : Thread nD τ)).1, b) = W8 m c b)
    (a : Ref sig .tc) (ha : a ∈ argRefs) (hs : ¬ (Proc.devRef .tc a : DevRef τ sig).isScoped) :
    s ((c : Thread nD τ).loc a) = m ((c : Thread nD τ).loc a) :=
  (h _ (mem_uc a hs)).trans (W8_args m c a ha)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨fun c => ⟨args_kept m c r.2.mem (h.1 c) main_arg0 (by decide) (by decide),
    args_kept m c r.2.mem (h.1 c) main_arg1 (by decide) (by decide),
    args_kept m c r.2.mem (h.1 c) main_arg2 (by decide) (by decide),
    args_kept m c r.2.mem (h.1 c) main_arg3 (by decide) (by decide),
    args_kept m c r.2.mem (h.1 c) main_arg4 (by decide) (by decide),
    args_kept m c r.2.mem (h.1 c) main_arg5 (by decide) (by decide),
    args_kept m c r.2.mem (h.1 c) main_arg6 (by decide) (by decide),
    args_kept m c r.2.mem (h.1 c) main_arg7 (by decide) (by decide),
    args_kept m c r.2.mem (h.1 c) main_arg8 (by decide) (by decide),
    args_kept m c r.2.mem (h.1 c) main_arg9 (by decide) (by decide),
    args_kept m c r.2.mem (h.1 c) main_arg10 (by decide) (by decide),
    args_kept m c r.2.mem (h.1 c) main_arg11 (by decide) (by decide),
    args_kept m c r.2.mem (h.1 c) main_arg12 (by decide) (by decide),
    args_kept m c r.2.mem (h.1 c) main_arg13 (by decide) (by decide),
    args_kept m c r.2.mem (h.1 c) main_arg14 (by decide) (by decide),
    args_kept m c r.2.mem (h.1 c) main_arg15 (by decide) (by decide),
    args_kept m c r.2.mem (h.1 c) main_arg16 (by decide) (by decide),
    args_kept m c r.2.mem (h.1 c) main_arg17 (by decide) (by decide),
    args_kept m c r.2.mem (h.1 c) main_arg18 (by decide) (by decide),
    args_kept m c r.2.mem (h.1 c) main_arg19 (by decide) (by decide),
    args_kept m c r.2.mem (h.1 c) main_arg20 (by decide) (by decide),
    args_kept m c r.2.mem (h.1 c) main_arg21 (by decide) (by decide),
    args_kept m c r.2.mem (h.1 c) main_arg22 (by decide) (by decide)⟩, h.2⟩) (run m ρ)

end Cert.KernelIdeal.Run
end
-- ==== Proof.Same.lean ====
module

public import proofs.«01_k».proof.Defs
public import proofs.«01_k».proof.Proof.Gen.Kernel
public import proofs.«01_k».proof.Proof.Gen.KernelIdeal
public import proofs.«01_k».proof.Proof.Ideal.Run

@[expose] public section

noncomputable section

namespace Cert.Proof

open Idealize.ShloMosaic Idealize.SL.Sem Idealize.ShloMosaic.TcCoe

/-! The program as printed and the program of the ideal pass are the same text (no rule rewrote an operation), so a run
    proved of the second at every instance is a run of the first. -/

variable [hK : Cert.Kernel.Facts] [hI : Cert.KernelIdeal.Facts]
variable {F : FTy → Type} [FloatOps F]

set_option maxRecDepth 100000
set_option maxHeartbeats 20000000

/-- The kernel bodies of the two programs agree, label by label. -/
theorem defs0_same : HEq (@Cert.KernelIdeal.defs₀ F _ _) (@Cert.Kernel.defs₀ F _ _) := by
  unfold Cert.KernelIdeal.defs₀ Cert.Kernel.defs₀
  with_unfolding_all refine heq_of_eq (congrArg Defs.onTc (funext fun l => funext fun x => ?_))
  match l, x with
  | 0, (t, s) => with_unfolding_all exact rfl
  | 1, (t, s) => with_unfolding_all exact rfl
  | 2, (t, s) => with_unfolding_all exact rfl
  | 3, (t, s) => with_unfolding_all exact rfl
  | 4, (t, s) => with_unfolding_all exact rfl

theorem defs_same : HEq (@Cert.KernelIdeal.defs F _ _) (@Cert.Kernel.defs F _ _) := by
  unfold Cert.KernelIdeal.defs Cert.Kernel.defs
  with_unfolding_all exact heq_of_eq (congrArg (Pipeline.defs (@Cert.KernelIdeal.pcfgs F _)) (eq_of_heq defs0_same))

theorem main_same : HEq (@Cert.KernelIdeal.main F _) (@Cert.Kernel.main F _) := by
  with_unfolding_all exact HEq.rfl

/-- The frame of the program as printed. -/
theorem kernel_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0) := by
  rw [← eq_of_heq (defs_same (hI := Cert.KernelIdeal.Gen.facts)), ← eq_of_heq main_same]
  with_unfolding_all exact Cert.KernelIdeal.Run.frame (F := F) m ρ

end Cert.Proof
end
-- ==== Proof.Frames.lean ====
module

public import proofs.«01_k».proof.Defs
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The program as printed leaves its arguments and its counters as they were. -/
theorem frame_kernel : Cert.quiescent_Kernel (hKernel := Cert.Kernel.Gen.facts) := fun m g _ =>
  kernel_frame (hK := Cert.Kernel.Gen.facts) (F := Bits) m g

/-- So does the program of the ideal pass. -/
theorem frame_ideal : Cert.quiescent_KernelIdeal (hKernelIdeal := Cert.KernelIdeal.Gen.facts) := fun m g _ =>
  Cert.KernelIdeal.Run.frame (F := Ideal) m g

/-- So does the reference, which has no counter. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2.2.2, sem_eq_zero_of_no_sems (by decide) r.2⟩)
    (Cert.ReferenceIdeal.Value.run (F := Ideal) m g)

end Cert.Proof
end
-- ==== Proof.Math.Top.lean ====
module

public import Idealize.ShloMosaic.PureOps.Ideal
public import Idealize.ShloMosaic.PureOps.ShapeOps
public import Idealize.ShloMosaic.PureOps.Reduce
public import Mathlib.Data.Finset.Fold

@[expose] public section

noncomputable section

namespace Cert.Math

open Idealize.ShloMosaic

/-! The `k` greatest entries of a row, equal entries taken in index order: the set is determined by what it is, however it is
    found. A sort finds it (the reference), and so do `k` rounds that take the lowest index of the greatest entry left over
    (the kernel). -/

variable {n : ℕ}

/-- Position `a` is taken before `b`: its entry is greater, or equal at a lower index. -/
def Beats (p : Fin n → EReal) (a b : Fin n) : Prop := p b < p a ∨ (p a = p b ∧ a < b)

theorem Beats.asymm {p : Fin n → EReal} {a b : Fin n} (h : Beats p a b) : ¬ Beats p b a := by
  rintro (g | ⟨g, g'⟩) <;> rcases h with (h | ⟨h, h'⟩)
  · exact lt_asymm g h
  · rw [h] at g; exact lt_irrefl _ g
  · rw [g] at h; exact lt_irrefl _ h
  · exact lt_asymm g' h'

theorem Beats.trans {p : Fin n → EReal} {a b c : Fin n} (h : Beats p a b) (g : Beats p b c) : Beats p a c := by
  rcases h with (h | ⟨h, h'⟩) <;> rcases g with (g | ⟨g, g'⟩)
  · exact .inl (lt_trans g h)
  · exact .inl (g ▸ h)
  · exact .inl (h ▸ g)
  · exact .inr ⟨h.trans g, lt_trans h' g'⟩

/-- `S` is the set of the `k` positions taken first. -/
structure IsTop (p : Fin n → EReal) (k : ℕ) (S : Finset (Fin n)) : Prop where
  card : S.card = k
  beats : ∀ a ∈ S, ∀ b, b ∉ S → Beats p a b

theorem IsTop.unique {p : Fin n → EReal} {k : ℕ} {S T : Finset (Fin n)} (hS : IsTop p k S) (hT : IsTop p k T) : S = T := by
  by_cases h : S ⊆ T
  · exact Finset.eq_of_subset_of_card_le h (by rw [hS.card, hT.card])
  · obtain ⟨a, ha, hna⟩ := Finset.not_subset.1 h
    have h' : T ⊆ S := by
      intro b hb
      by_contra hnb
      exact (hS.beats a ha b hnb).asymm (hT.beats b hb a hna)
    exact (Finset.eq_of_subset_of_card_le h' (by rw [hS.card, hT.card])).symm

/-! ### One round -/

/-- The least of words read signed, under a first word none of them exceeds. -/
theorem fold_minsi {ι : Type} (s : Finset ι) (g : ι → BitVec 32) (m w : BitVec 32) (hm : w.toInt ≤ m.toInt)
    (hle : ∀ x ∈ s, w.toInt ≤ (g x).toInt) :
    w.toInt ≤ (s.fold IntOp.minsi m g).toInt ∧ ((∃ x ∈ s, g x = w) → s.fold IntOp.minsi m g = w) := by
  classical
  induction s using Finset.induction with
  | empty => exact ⟨by simpa using hm, fun ⟨x, hx, _⟩ => absurd hx (Finset.notMem_empty x)⟩
  | insert a s ha ih =>
    obtain ⟨i1, i2⟩ := ih fun x hx => hle x (Finset.mem_insert_of_mem hx)
    have h0 := hle a (Finset.mem_insert_self a s)
    rw [Finset.fold_insert ha]
    unfold IntOp.minsi at *
    refine ⟨by split <;> assumption, ?_⟩
    rintro ⟨x, hx, hxw⟩
    rcases Finset.mem_insert.1 hx with e | hx
    · rw [e] at hxw
      rw [hxw]
      split
      · rfl
      · next h =>
        have := BitVec.slt_iff_toInt_lt.not.1 h
        exact BitVec.eq_of_toInt_eq (le_antisymm (by omega) i1)
    · rw [i2 ⟨x, hx, hxw⟩]
      split
      · next h =>
        have := BitVec.slt_iff_toInt_lt.1 h
        omega
      · rfl

/-- The greatest of a row of entries, from a first value that is the least there is, is one of them and bounds them all. -/
theorem fold_max_spec (hn : 0 < n) (f : Fin n → EReal) :
    (∀ j, f j ≤ Finset.univ.fold max ⊥ f) ∧ ∃ j, f j = Finset.univ.fold max ⊥ f := by
  have h : Finset.univ.fold max ⊥ f = Finset.univ.sup f := rfl
  rw [h]
  refine ⟨fun j => Finset.le_sup (Finset.mem_univ j), ?_⟩
  obtain ⟨j, -, e⟩ := Finset.exists_mem_eq_sup Finset.univ ⟨⟨0, hn⟩, Finset.mem_univ _⟩ f
  exact ⟨j, e.symm⟩

/-- The mask of a set of positions. -/
def bits (S : Finset (Fin n)) (j : Fin n) : BitVec 1 := if j ∈ S then 1#1 else 0#1

/-- The entries left over: a taken one reads −1. -/
def left (p : Fin n → EReal) (s : Fin n → BitVec 1) (j : Fin n) : EReal := if s j = 1#1 then (((-1 : ℝ)) : EReal) else p j

/-- A round of the kernel: the lowest index of the greatest entry left over joins the mask. -/
def round (p : Fin n → EReal) (s : Fin n → BitVec 1) (j : Fin n) : BitVec 1 :=
  IntOp.ori (s j) (IntOp.cmpi .eq (BitVec.ofNat 32 j)
    (Finset.univ.fold IntOp.minsi 2147483647#32 fun x : Fin n =>
      if left p s x = Finset.univ.fold max ⊥ (left p s) then BitVec.ofNat 32 x else BitVec.ofNat 32 n))

theorem toInt_ofNat_small {a : ℕ} (h : a < 2 ^ 31) : (BitVec.ofNat 32 a).toInt = a := by
  rw [BitVec.toInt_ofNat', Int.bmod_eq_of_le] <;> omega

/-- A round takes the mask of the first `k` to the mask of the first `k + 1`. -/
theorem round_top (p : Fin n → EReal) (hp : ∀ j, (((-1 : ℝ)) : EReal) < p j) (hn31 : n < 2 ^ 31) {k : ℕ} (hk : k < n)
    (S : Finset (Fin n)) (hS : IsTop p k S) : ∃ T : Finset (Fin n), IsTop p (k + 1) T ∧ round p (bits S) = bits T := by
  classical
  have hl : ∀ j, left p (bits S) j = if j ∈ S then (((-1 : ℝ)) : EReal) else p j := by
    intro j
    unfold left bits
    by_cases h : j ∈ S <;> simp [h]
  obtain ⟨hM, hM'⟩ := fold_max_spec (by omega) (left p (bits S))
  set M := Finset.univ.fold max ⊥ (left p (bits S)) with hMdef
  set T := Finset.univ.filter fun x => left p (bits S) x = M with hT
  have hTn : T.Nonempty := by
    obtain ⟨j, hj⟩ := hM'
    exact ⟨j, by rw [hT, Finset.mem_filter]; exact ⟨Finset.mem_univ _, hj⟩⟩
  set j0 := T.min' hTn with hj0
  have hj0T : left p (bits S) j0 = M := (Finset.mem_filter.1 (T.min'_mem hTn)).2
  obtain ⟨b, hb⟩ : ∃ b, b ∉ S := by
    by_contra h
    have h' : S = Finset.univ := Finset.eq_univ_iff_forall.2 fun b => not_not.1 fun e => h ⟨b, e⟩
    have := hS.card
    rw [h', Finset.card_univ, Fintype.card_fin] at this
    omega
  have hj0S : j0 ∉ S := by
    intro h
    have h1 := hM b
    rw [hl, if_neg hb, ← hj0T, hl, if_pos h] at h1
    exact absurd (hp b) (not_lt.2 h1)
  have hbeat : ∀ c, c ∉ S → c ≠ j0 → Beats p j0 c := by
    intro c hc hne
    have h1 := hM c
    have e0 : left p (bits S) j0 = p j0 := by rw [hl, if_neg hj0S]
    have e1 : left p (bits S) c = p c := by rw [hl, if_neg hc]
    rw [e1, ← hj0T, e0] at h1
    rcases lt_or_eq_of_le h1 with h | h
    · exact .inl h
    · refine .inr ⟨h.symm, lt_of_le_of_ne (T.min'_le c ?_) (Ne.symm hne)⟩
      rw [hT, Finset.mem_filter]
      exact ⟨Finset.mem_univ _, by rw [e1, h, ← e0, hj0T]⟩
  have hidx : (Finset.univ.fold IntOp.minsi 2147483647#32 fun x : Fin n =>
      if left p (bits S) x = M then BitVec.ofNat 32 x else BitVec.ofNat 32 n) = BitVec.ofNat 32 j0 := by
    refine (fold_minsi _ _ _ _ ?_ ?_).2 ⟨j0, Finset.mem_univ _, if_pos hj0T⟩
    · rw [toInt_ofNat_small (by omega)]
      show (j0.val : ℤ) ≤ 2147483647
      omega
    · intro x _
      rw [toInt_ofNat_small (by omega)]
      split
      · next h =>
        rw [toInt_ofNat_small (by omega)]
        have : j0 ≤ x := T.min'_le x (by rw [hT, Finset.mem_filter]; exact ⟨Finset.mem_univ _, h⟩)
        exact_mod_cast this
      · rw [toInt_ofNat_small (by omega)]
        omega
  refine ⟨insert j0 S, ⟨by rw [Finset.card_insert_of_notMem hj0S, hS.card], ?_⟩, ?_⟩
  · intro a ha c hc
    have hcS : c ∉ S := fun h => hc (Finset.mem_insert_of_mem h)
    rcases Finset.mem_insert.1 ha with e | ha
    · rw [e]
      exact hbeat c hcS fun h => hc (h ▸ Finset.mem_insert_self _ _)
    · exact hS.beats a ha c hcS
  · funext j
    unfold round
    rw [← hMdef, hidx]
    have hc : IntOp.cmpi .eq (BitVec.ofNat 32 j) (BitVec.ofNat 32 j0) = if j = j0 then 1#1 else 0#1 := by
      unfold IntOp.cmpi
      by_cases h : j = j0
      · rw [h]; simp
      · have hne : BitVec.ofNat 32 j.val ≠ BitVec.ofNat 32 j0.val := by
          intro e
          have := congrArg BitVec.toInt e
          rw [toInt_ofNat_small (by omega), toInt_ofNat_small (by omega)] at this
          exact h (Fin.ext (by exact_mod_cast this))
        simp [h, beq_eq_false_iff_ne.2 hne]
    rw [hc]
    unfold bits IntOp.ori
    by_cases h1 : j = j0
    · by_cases h2 : j ∈ S <;> simp [h1, hj0S]
    · by_cases h2 : j ∈ S <;> simp [h1, h2]

/-- After `k` rounds from the empty mask. -/
theorem rounds_top (p : Fin n → EReal) (hp : ∀ j, (((-1 : ℝ)) : EReal) < p j) (hn31 : n < 2 ^ 31) :
    ∀ k ≤ n, ∃ T : Finset (Fin n), IsTop p k T ∧ (round p)^[k] (fun _ => 0#1) = bits T
  | 0, _ => ⟨∅, ⟨rfl, fun a ha => absurd ha (Finset.notMem_empty a)⟩, by
      funext j
      simp [bits]⟩
  | k + 1, hk => by
    obtain ⟨S, hS, e⟩ := rounds_top p hp hn31 k (by omega)
    obtain ⟨T, hT, e'⟩ := round_top p hp hn31 hk S hS
    exact ⟨T, hT, by rw [Function.iterate_succ_apply', e, e']⟩

/-! ### The sort -/

theorem mem_insertBefore {ι : Type} (before : ι → ι → Bool) (a c : ι) (l : List ι) :
    c ∈ insertBefore before a l ↔ c = a ∨ c ∈ l := by
  induction l with
  | nil => simp [insertBefore]
  | cons b l ih =>
    unfold insertBefore
    split
    · rw [List.mem_cons, ih, List.mem_cons]; tauto
    · rw [List.mem_cons, List.mem_cons]

theorem mem_stableSort {ι : Type} (before : ι → ι → Bool) (c : ι) (l : List ι) : c ∈ stableSort before l ↔ c ∈ l := by
  induction l with
  | nil => exact Iff.rfl
  | cons a l ih => rw [stableSort, mem_insertBefore, ih, List.mem_cons]

/-- Which of two positions holds the strictly greater entry. -/
def greater (p : Fin n → EReal) (a b : Fin n) : Bool := decide (p b < p a)

theorem pairwise_insertBefore (p : Fin n → EReal) (a : Fin n) (l : List (Fin n)) (hl : l.Pairwise (Beats p)) (ha : ∀ b ∈ l, a < b) :
    (insertBefore (greater p) a l).Pairwise (Beats p) := by
  induction l with
  | nil => exact List.pairwise_singleton _ _
  | cons b l ih =>
    rw [List.pairwise_cons] at hl
    unfold insertBefore
    split
    · next h =>
      rw [List.pairwise_cons]
      refine ⟨fun c hc => ?_, ih hl.2 fun c hc => ha c (List.mem_cons_of_mem _ hc)⟩
      rcases (mem_insertBefore _ _ _ _).1 hc with e | hc
      · rw [e]; exact .inl (of_decide_eq_true h)
      · exact hl.1 c hc
    · next h =>
      have hab : Beats p a b := by
        have h' : ¬ p a < p b := fun e => h (decide_eq_true e)
        rcases lt_or_eq_of_le (not_lt.1 h') with e | e
        · exact .inl e
        · exact .inr ⟨e.symm, ha b List.mem_cons_self⟩
      rw [List.pairwise_cons, List.pairwise_cons]
      refine ⟨fun c hc => ?_, hl⟩
      rcases List.mem_cons.1 hc with e | hc
      · rw [e]; exact hab
      · exact hab.trans (hl.1 c hc)

theorem pairwise_stableSort (p : Fin n → EReal) (l : List (Fin n)) (hl : l.Pairwise (· < ·)) :
    (stableSort (greater p) l).Pairwise (Beats p) := by
  induction l with
  | nil => exact List.Pairwise.nil
  | cons a l ih =>
    rw [List.pairwise_cons] at hl
    exact pairwise_insertBefore p a _ (ih hl.2) fun b hb => hl.1 b ((mem_stableSort _ _ _).1 hb)

/-- The first of two places of the sorted row beats the second. -/
theorem sortedFrom_beats (p : Fin n → EReal) {q q' : Fin n} (h : q < q') :
    Beats p (sortedFrom (greater p) q) (sortedFrom (greater p) q') := by
  have hp := pairwise_stableSort p (List.finRange n) (List.pairwise_lt_finRange n)
  unfold sortedFrom sortPositions
  simp only [List.get_eq_getElem]
  exact List.pairwise_iff_getElem.1 hp _ _ _ _ h

theorem sortedFrom_surj (p : Fin n → EReal) (b : Fin n) : ∃ q, sortedFrom (greater p) q = b := by
  have hm : b ∈ stableSort (greater p) (List.finRange n) := (mem_stableSort _ _ _).2 (List.mem_finRange b)
  obtain ⟨i, hi, e⟩ := List.mem_iff_getElem.1 hm
  have hi' : i < n := by rw [length_stableSort, List.length_finRange] at hi; exact hi
  exact ⟨⟨i, hi'⟩, e⟩

/-- The positions at the first `k` places of the sorted row. -/
def sorted (p : Fin n → EReal) (k : ℕ) (hk : k ≤ n) : Finset (Fin n) :=
  Finset.univ.image fun q : Fin k => sortedFrom (greater p) (q.castLE hk)

theorem sorted_top (p : Fin n → EReal) (k : ℕ) (hk : k ≤ n) : IsTop p k (sorted p k hk) := by
  refine ⟨?_, ?_⟩
  · unfold sorted
    rw [Finset.card_image_of_injective, Finset.card_univ, Fintype.card_fin]
    intro q q' e
    by_contra hne
    rcases lt_or_gt_of_ne hne with h | h
    · have := sortedFrom_beats p (q := q.castLE hk) (q' := q'.castLE hk) h
      simp only at e
      rw [e] at this
      exact this.asymm this
    · have := sortedFrom_beats p (q := q'.castLE hk) (q' := q.castLE hk) h
      simp only at e
      rw [e] at this
      exact this.asymm this
  · intro a ha b hb
    obtain ⟨q, -, rfl⟩ := Finset.mem_image.1 ha
    obtain ⟨q', rfl⟩ := sortedFrom_surj p b
    refine sortedFrom_beats p ?_
    by_contra h
    refine hb (Finset.mem_image.2 ⟨⟨q'.val, ?_⟩, Finset.mem_univ _, rfl⟩)
    have : q'.val ≤ q.val := not_lt.1 h
    omega

/-- The rounds and the sort find one set. -/
theorem rounds_eq_sorted (p : Fin n → EReal) (hp : ∀ j, (((-1 : ℝ)) : EReal) < p j) (hn31 : n < 2 ^ 31) (k : ℕ) (hk : k ≤ n) :
    (round p)^[k] (fun _ => 0#1) = bits (sorted p k hk) := by
  obtain ⟨T, hT, e⟩ := rounds_top p hp hn31 k hk
  rw [e, hT.unique (sorted_top p k hk)]

end Cert.Math
end
-- ==== Proof.Math.Spec.lean ====
module

public import Idealize.ShloMosaic.PureOps.Ideal
public import Idealize.ShloMosaic.PureOps.Ideal.Laws
public import Idealize.ShloMosaic.Lib.IdealHost
public import proofs.«01_k».proof.Proof.Math.Top
public import Mathlib.Analysis.SpecialFunctions.Pow.Real

@[expose] public section

noncomputable section

namespace Cert.Math

open Idealize.ShloMosaic

/-! What the network computes, over the extended reals, entry by entry: the layers as functions of rows and matrices, the facts that make
    the two orders of computing agree, and that finite arguments keep every intermediate a real number. -/

/-! ### The constants -/

theorem lit_neg_one : Ideal.ofBits .f32 0xBF800000#32 = (((-1 : ℝ)) : EReal) := by
  simp [Ideal.ofBits, Ideal.ieee, -EReal.coe_mul, -EReal.coe_neg]; norm_num
theorem lit_neg_half : Ideal.ofBits .f32 0xBF000000#32 = (((-(1 / 2) : ℝ)) : EReal) := by
  simp [Ideal.ofBits, Ideal.ieee, -EReal.coe_mul, -EReal.coe_neg]; norm_num
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]
theorem lit_sixteen : Ideal.ofBits .f32 0x41800000#32 = ((16 : ℝ) : EReal) := by
  simp [Ideal.ofBits, Ideal.ieee, -EReal.coe_mul]; norm_num
theorem lit_sixteenth : Ideal.ofBits .f32 0x3D800000#32 = (((16 : ℝ)⁻¹ : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_eps : ∃ r : ℝ, 0 < r ∧ Ideal.ofBits .f32 0x3727C5AC#32 = (r : EReal) :=
  ⟨(10995116 : ℕ) * 2 ^ (-40 : ℤ), by positivity, by simp [Ideal.ofBits, Ideal.ieee, -EReal.coe_mul]⟩
theorem lit_slope : ∃ r : ℝ, Ideal.ofBits .f32 0x3C23D70A#32 = (r : EReal) :=
  ⟨(10737418 : ℕ) * 2 ^ (-30 : ℤ), by simp [Ideal.ofBits, Ideal.ieee, -EReal.coe_mul]⟩

/-- A quotient by sixteen is a product with a sixteenth. -/
theorem div_sixteen (x : EReal) : Ideal.div x (Ideal.ofBits .f32 0x41800000#32) = x * Ideal.ofBits .f32 0x3D800000#32 := by
  rw [lit_sixteen, lit_sixteenth]
  unfold Ideal.div
  rw [if_neg (by norm_cast), ← EReal.coe_inv]

/-! ### The layers -/

/-- One over the root of a node's degree, zero off the positive degrees. -/
def dis (d : EReal) : EReal := if 0 < d then Ideal.rsqrt d else 0

/-- The same by the power −½, an infinite value replaced by zero. -/
theorem dis_pow (d : EReal) :
    (if max (Ideal.pow d (Ideal.ofBits .f32 0xBF000000#32)) (-Ideal.pow d (Ideal.ofBits .f32 0xBF000000#32)) = ⊤ then 0
      else Ideal.pow d (Ideal.ofBits .f32 0xBF000000#32)) = dis d := by
  rw [lit_neg_half]
  induction d with
  | bot =>
    have h : Ideal.pow ⊥ (((-(1 / 2) : ℝ)) : EReal) = ⊥ := rfl
    rw [h]
    simp [dis]
  | top =>
    have h1 : ¬ (0 : EReal) < (((-(1 / 2) : ℝ)) : EReal) := by
      rw [not_lt]; exact EReal.coe_nonpos.mpr (by norm_num)
    have h2 : (((-(1 / 2) : ℝ)) : EReal) ≠ 0 := by
      intro h; exact absurd (EReal.coe_eq_zero.mp h) (by norm_num)
    have h : Ideal.pow ⊤ (((-(1 / 2) : ℝ)) : EReal) = if (0 : EReal) < (((-(1 / 2) : ℝ)) : EReal) then ⊤ else if (((-(1 / 2) : ℝ)) : EReal) = 0 then 1 else 0 := rfl
    have hr : Ideal.rsqrt ⊤ = 0 := rfl
    rw [h, if_neg h1, if_neg h2]
    unfold dis
    rw [hr]
    simp
  | coe r =>
    have hp : Ideal.pow (r : EReal) (((-(1 / 2) : ℝ)) : EReal) = ((Real.rpow r (-(1 / 2)) : ℝ) : EReal) := rfl
    have hmax : max ((Real.rpow r (-(1 / 2)) : ℝ) : EReal) (-((Real.rpow r (-(1 / 2)) : ℝ) : EReal)) ≠ ⊤ := by
      rw [← EReal.coe_neg]
      rcases max_choice ((Real.rpow r (-(1 / 2)) : ℝ) : EReal) (((-Real.rpow r (-(1 / 2)) : ℝ)) : EReal) with h | h <;> rw [h] <;> exact EReal.coe_ne_top _
    rw [hp, if_neg hmax]
    unfold dis
    by_cases h : 0 < r
    · rw [if_pos (EReal.coe_pos.2 h)]
      show _ = if r < 0 then (⊥ : EReal) else if r = 0 then ⊤ else (((Real.sqrt r)⁻¹ : ℝ) : EReal)
      rw [if_neg (not_lt.2 h.le), if_neg h.ne']
      congr 1
      show r ^ (-(1 / 2) : ℝ) = _
      rw [Real.rpow_neg h.le, Real.sqrt_eq_rpow]
    · rw [if_neg (by rw [EReal.coe_pos]; exact h)]
      have h0 : Real.rpow r (-(1 / 2)) = 0 := by
        rcases lt_or_eq_of_le (not_lt.1 h) with h | h
        · show r ^ (-(1 / 2) : ℝ) = 0
          rw [Real.rpow_def_of_neg h, show (-(1 / 2) : ℝ) * Real.pi = -(Real.pi / 2) by ring, Real.cos_neg, Real.cos_pi_div_two, mul_zero]
        · rw [h]
          show (0 : ℝ) ^ (-(1 / 2) : ℝ) = 0
          exact Real.zero_rpow (by norm_num)
      rw [h0, EReal.coe_zero]

/-- It is a real number and not negative, whatever the degree. -/
theorem dis_real (d : EReal) : ∃ r : ℝ, 0 ≤ r ∧ dis d = (r : EReal) := by
  unfold dis
  split
  · next h =>
    induction d with
    | bot => exact absurd h (by simp)
    | top => exact ⟨0, le_rfl, rfl⟩
    | coe r =>
      rw [EReal.coe_pos] at h
      refine ⟨(Real.sqrt r)⁻¹, by positivity, ?_⟩
      show (if r < 0 then (⊥ : EReal) else if r = 0 then ⊤ else (((Real.sqrt r)⁻¹ : ℝ) : EReal)) = _
      rw [if_neg (not_lt.2 h.le), if_neg h.ne']
  · exact ⟨0, le_rfl, rfl⟩

/-- A real factor that is not negative goes into a sum of extended reals. -/
theorem mul_sum_real {ι : Type} (s : Finset ι) (r : ℝ) (hr : 0 ≤ r) (f : ι → EReal) :
    (r : EReal) * ∑ i ∈ s, f i = ∑ i ∈ s, (r : EReal) * f i := by
  classical
  induction s using Finset.induction with
  | empty => simp
  | insert a s ha ih =>
    rw [Finset.sum_insert ha, Finset.sum_insert ha, ← ih]
    exact EReal.left_distrib_of_nonneg_of_ne_top (EReal.coe_nonneg.2 hr) (EReal.coe_ne_top r) _ _

section Layers

variable {n k l : ℕ}

/-- A matrix by a matrix, entry by entry. -/
def mm (X : Fin n → Fin k → EReal) (W : Fin k → Fin l → EReal) (i : Fin n) (f : Fin l) : EReal := ∑ x, X i x * W x f

/-- A linear layer. -/
def lin (X : Fin n → Fin k → EReal) (W : Fin k → Fin l → EReal) (b : Fin l → EReal) (i : Fin n) (f : Fin l) : EReal := mm X W i f + b f

/-- A graph convolution of rows `Zp` already scaled by their nodes' factor `d`. -/
def gcn (A : Fin n → Fin n → EReal) (d : Fin n → EReal) (Zp : Fin n → Fin l → EReal) (b : Fin l → EReal) (i : Fin n) (f : Fin l) : EReal :=
  d i * (∑ j, A i j * Zp j f) + b f

/-- The scaling of the adjacency's rows and columns, taken into the rows of the product. -/
theorem gcn_scaled (A : Fin n → Fin n → EReal) (d : Fin n → EReal) (hd : ∀ i, ∃ r : ℝ, 0 ≤ r ∧ d i = (r : EReal))
    (Z : Fin n → Fin l → EReal) (b : Fin l → EReal) (i : Fin n) (f : Fin l) :
    (∑ j, d i * A i j * d j * Z j f) + b f = gcn A d (fun j f => d j * Z j f) b i f := by
  unfold gcn
  congr 1
  obtain ⟨r, hr, e⟩ := hd i
  rw [e, mul_sum_real _ r hr]
  refine Finset.sum_congr rfl fun j _ => ?_
  rw [mul_assoc, mul_assoc]

def mean (y : Fin 256 → EReal) : EReal := Ideal.div (∑ x, y x) (Ideal.ofBits .f32 0x43800000#32)

/-- The normalisation of a row of 256. -/
def norm (y g b : Fin 256 → EReal) (f : Fin 256) : EReal :=
  Ideal.div (y f - mean y) (Ideal.sqrt (mean (fun x => (y x - mean y) * (y x - mean y)) + Ideal.ofBits .f32 0x3727C5AC#32)) * g f + b f

def leaky (y : EReal) : EReal := if 0 ≤ y then y else Ideal.ofBits .f32 0x3C23D70A#32 * y

/-- The greatest entry of a row. -/
def top (y : Fin n → EReal) : EReal := Finset.univ.fold max ⊥ y

/-- The softmax of a row. -/
def soft (y : Fin n → EReal) (j : Fin n) : EReal := Ideal.div (Ideal.exp (y j - top y)) (∑ x, Ideal.exp (y x - top y))

/-- The scaled products of a row of queries with the keys. -/
def logits (q : Fin 256 → EReal) (K : Fin n → Fin 256 → EReal) (j : Fin n) : EReal := (∑ x, q x * K j x) * Ideal.ofBits .f32 0x3D800000#32

/-- The attention of a row of queries over the keys. -/
def att (q : Fin 256 → EReal) (K : Fin n → Fin 256 → EReal) : Fin n → EReal := soft (logits q K)

/-- One at the ten greatest entries of a row, zero elsewhere. -/
def mask (p : Fin n → EReal) (h : 10 ≤ n) (j : Fin n) : EReal := if j ∈ sorted p 10 h then 1 else 0

end Layers

/-! ### Real numbers stay real numbers -/

/-- Neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.sub {x y : EReal} (hx : IsReal x) (hy : IsReal y) : IsReal (x - y) := by
  obtain ⟨r, rfl⟩ := hx; obtain ⟨s, rfl⟩ := hy; exact ⟨r - s, (EReal.coe_sub r s).symm⟩
theorem IsReal.mul {x y : EReal} (hx : IsReal x) (hy : IsReal y) : IsReal (x * y) := by
  obtain ⟨r, rfl⟩ := hx; obtain ⟨s, rfl⟩ := hy; exact ⟨r * s, (EReal.coe_mul r s).symm⟩
theorem div_coe (r s : ℝ) (hs : s ≠ 0) : Ideal.div (r : EReal) (s : EReal) = ((r / s : ℝ) : EReal) := by
  unfold Ideal.div
  rw [if_neg (by rw [EReal.coe_eq_zero]; exact hs), ← EReal.coe_inv, ← EReal.coe_mul, div_eq_mul_inv]
theorem coe_sum {ι : Type} (s : Finset ι) (f : ι → ℝ) : (∑ i ∈ s, (f i : EReal)) = ((∑ i ∈ s, f i : ℝ) : EReal) := by
  classical
  induction s using Finset.induction with
  | empty => simp
  | insert a s ha ih => rw [Finset.sum_insert ha, Finset.sum_insert ha, ih, EReal.coe_add]
theorem isReal_sum {ι : Type} (s : Finset ι) (f : ι → EReal) (h : ∀ i, IsReal (f i)) : IsReal (∑ i ∈ s, f i) := by
  choose g hg using h
  refine ⟨∑ i ∈ s, g i, ?_⟩
  rw [← coe_sum]
  exact Finset.sum_congr rfl fun i _ => hg i

section Layers

variable {n k l : ℕ}

theorem isReal_dis (d : EReal) : IsReal (dis d) := by
  obtain ⟨r, _, e⟩ := dis_real d
  exact ⟨r, e⟩

theorem isReal_mm {X : Fin n → Fin k → EReal} {W : Fin k → Fin l → EReal} (hX : ∀ i j, IsReal (X i j)) (hW : ∀ i j, IsReal (W i j))
    (i : Fin n) (f : Fin l) : IsReal (mm X W i f) := isReal_sum _ _ fun x => (hX i x).mul (hW x f)

theorem isReal_lin {X : Fin n → Fin k → EReal} {W : Fin k → Fin l → EReal} {b : Fin l → EReal} (hX : ∀ i j, IsReal (X i j))
    (hW : ∀ i j, IsReal (W i j)) (hb : ∀ j, IsReal (b j)) (i : Fin n) (f : Fin l) : IsReal (lin X W b i f) :=
  (isReal_mm hX hW i f).add (hb f)

theorem isReal_gcn {A : Fin n → Fin n → EReal} {d : Fin n → EReal} {Z : Fin n → Fin l → EReal} {b : Fin l → EReal} (hA : ∀ i j, IsReal (A i j))
    (hd : ∀ i, IsReal (d i)) (hZ : ∀ i j, IsReal (Z i j)) (hb : ∀ j, IsReal (b j)) (i : Fin n) (f : Fin l) : IsReal (gcn A d Z b i f) :=
  ((hd i).mul (isReal_sum _ _ fun x => (hA i x).mul (hZ x f))).add (hb f)

theorem mean_coe (y : Fin 256 → ℝ) : mean (fun x => (y x : EReal)) = (((∑ x, y x) / 256 : ℝ) : EReal) := by
  unfold mean
  rw [coe_sum, lit_256, div_coe _ _ (by norm_num)]

theorem isReal_norm {y g b : Fin 256 → EReal} (hy : ∀ j, IsReal (y j)) (hg : ∀ j, IsReal (g j)) (hb : ∀ j, IsReal (b j)) (f : Fin 256) :
    IsReal (norm y g b f) := by
  choose z hz using hy
  obtain rfl : y = fun x => (z x : EReal) := funext hz
  obtain ⟨e, he, hlit⟩ := lit_eps
  unfold norm
  rw [mean_coe, hlit]
  simp only [← EReal.coe_sub, ← EReal.coe_mul]
  rw [mean_coe, ← EReal.coe_add]
  have hv : 0 < (∑ x, (z x - (∑ x, z x) / 256) * (z x - (∑ x, z x) / 256)) / 256 + e :=
    add_pos_of_nonneg_of_pos (div_nonneg (Finset.sum_nonneg fun i _ => mul_self_nonneg _) (by norm_num)) he
  have hs : Ideal.sqrt (((∑ x, (z x - (∑ x, z x) / 256) * (z x - (∑ x, z x) / 256)) / 256 + e : ℝ) : EReal)
      = ((Real.sqrt ((∑ x, (z x - (∑ x, z x) / 256) * (z x - (∑ x, z x) / 256)) / 256 + e) : ℝ) : EReal) := by
    show (if _ < 0 then (⊥ : EReal) else _) = _
    rw [if_neg (not_lt.2 hv.le)]
  rw [hs, div_coe _ _ (Real.sqrt_pos.2 hv).ne']
  exact ((isReal_coe _).mul (hg f)).add (hb f)

theorem isReal_leaky {y : EReal} (hy : IsReal y) : IsReal (leaky y) := by
  unfold leaky
  obtain ⟨r, hr⟩ := lit_slope
  split
  · exact hy
  · rw [hr]; exact (isReal_coe r).mul hy

theorem isReal_top (hn : 0 < n) {y : Fin n → EReal} (hy : ∀ j, IsReal (y j)) : IsReal (top y) := by
  obtain ⟨j, hj⟩ := (fold_max_spec hn y).2
  unfold top
  rw [← hj]
  exact hy j

/-- A row of real numbers has a softmax of real numbers, none of them negative. -/
theorem soft_real (hn : 0 < n) {y : Fin n → EReal} (hy : ∀ j, IsReal (y j)) (j : Fin n) : ∃ r : ℝ, 0 ≤ r ∧ soft y j = (r : EReal) := by
  have ht := isReal_top hn hy
  have he : ∀ x, ∃ r : ℝ, 0 < r ∧ Ideal.exp (y x - top y) = (r : EReal) := by
    intro x
    obtain ⟨r, hr⟩ := (hy x).sub ht
    rw [hr]
    exact ⟨Real.exp r, Real.exp_pos r, rfl⟩
  choose e hpos heq using he
  unfold soft
  rw [heq j, Finset.sum_congr rfl fun x _ => heq x, coe_sum]
  have hs : 0 < ∑ x, e x := Finset.sum_pos (fun x _ => hpos x) ⟨⟨0, hn⟩, Finset.mem_univ _⟩
  rw [div_coe _ _ hs.ne']
  exact ⟨_, div_nonneg (hpos j).le hs.le, rfl⟩

theorem isReal_logits {q : Fin 256 → EReal} {K : Fin n → Fin 256 → EReal} (hq : ∀ j, IsReal (q j)) (hK : ∀ i j, IsReal (K i j)) (j : Fin n) :
    IsReal (logits q K j) := by
  unfold logits
  rw [lit_sixteenth]
  exact (isReal_sum _ _ fun x => (hq x).mul (hK j x)).mul (isReal_coe _)

theorem isReal_mask (p : Fin n → EReal) (h : 10 ≤ n) (j : Fin n) : IsReal (mask p h j) := by
  unfold mask
  split
  · exact isReal_one
  · exact isReal_zero

/-- The rounds' mask of a softmax of real numbers, as numbers. -/
theorem rounds_mask {p : Fin n → EReal} (hp : ∀ j, ∃ r : ℝ, 0 ≤ r ∧ p j = (r : EReal)) (h : 10 ≤ n) (h31 : n < 2 ^ 31) (j : Fin n) :
    (round p)^[10] (fun _ => 0#1) j = if j ∈ sorted p 10 h then 1#1 else 0#1 := by
  rw [rounds_eq_sorted p (fun j => ?_) h31 10 h]
  · rfl
  · obtain ⟨r, hr, e⟩ := hp j
    rw [e, EReal.coe_lt_coe_iff]
    linarith

/-- What a real number is taken from and added back to stays. -/
theorem sub_add_real {x y : EReal} (hy : IsReal y) : x - y + y = x := by
  obtain ⟨r, rfl⟩ := hy
  induction x with
  | bot => simp
  | top => simp
  | coe s => norm_cast; ring

end Layers

end Cert.Math
end
-- ==== Proof.Math.Net.lean ====
module

public import proofs.«01_k».proof.Proof.Math.Spec
public import Idealize.ShloMosaic.Lib.Pointwise.Index

@[expose] public section

noncomputable section

namespace Cert.Math

open Idealize.ShloMosaic

/-- The arguments, as matrices and rows of extended reals. -/
structure Args where
  X : Fin 4096 → Fin 512 → EReal
  A : Fin 4096 → Fin 4096 → EReal
  W1 : Fin 512 → Fin 256 → EReal
  b1 : Fin 256 → EReal
  g1 : Fin 256 → EReal
  e1 : Fin 256 → EReal
  W2 : Fin 256 → Fin 256 → EReal
  b2 : Fin 256 → EReal
  g2 : Fin 256 → EReal
  e2 : Fin 256 → EReal
  mu : Fin 1024 → Fin 256 → EReal
  qw : Fin 256 → Fin 256 → EReal
  qb : Fin 256 → EReal
  kw : Fin 256 → Fin 256 → EReal
  kb : Fin 256 → EReal
  vw : Fin 256 → Fin 256 → EReal
  vb : Fin 256 → EReal
  m1w : Fin 512 → Fin 512 → EReal
  m1b : Fin 512 → EReal
  m2w : Fin 512 → Fin 256 → EReal
  m2b : Fin 256 → EReal
  m3w : Fin 256 → Fin 256 → EReal
  m3b : Fin 256 → EReal

/-- A matrix read off its buffer. -/
def mat {n k : ℕ} (x : (⟨2, ![n, k]⟩ : Shape).Idx → EReal) (i : Fin n) (j : Fin k) : EReal := x (ix2 i j)

/-- A row read off its buffer. -/
def vec {n : ℕ} (x : (⟨1, ![n]⟩ : Shape).Idx → EReal) (i : Fin n) : EReal := x (ix1 i)

namespace Args

variable (a : Args)

/-- The factor of a node. -/
def d (i : Fin 4096) : EReal := dis (∑ j, a.A i j)
def zp1 (j : Fin 4096) (f : Fin 256) : EReal := a.d j * mm a.X a.W1 j f
def y1 (i : Fin 4096) (f : Fin 256) : EReal := gcn a.A a.d a.zp1 a.b1 i f
def h1 (i : Fin 4096) (f : Fin 256) : EReal := leaky (norm (a.y1 i) a.g1 a.e1 f)
def zp2 (j : Fin 4096) (f : Fin 256) : EReal := a.d j * mm a.h1 a.W2 j f
def y2 (i : Fin 4096) (f : Fin 256) : EReal := gcn a.A a.d a.zp2 a.b2 i f
/-- The nodes' features. -/
def xv (i : Fin 4096) (f : Fin 256) : EReal := norm (a.y2 i) a.g2 a.e2 f
def q1 (i : Fin 1024) (f : Fin 256) : EReal := lin a.mu a.qw a.qb i f
def k1 (i : Fin 4096) (f : Fin 256) : EReal := lin a.xv a.kw a.kb i f
def v1 (i : Fin 4096) (f : Fin 256) : EReal := lin a.xv a.vw a.vb i f
def q2 (i : Fin 4096) (f : Fin 256) : EReal := lin a.xv a.qw a.qb i f
/-- The hyperedges' attention over the nodes. -/
def p1 (i : Fin 1024) (j : Fin 4096) : EReal := att (a.q1 i) a.k1 j
def agg (i : Fin 1024) (f : Fin 256) : EReal := mm (fun i => mask (a.p1 i) (by decide)) a.v1 i f
/-- The first hidden layer: the hyperedge's own half of the weights, and the half of what it gathered. -/
def h2 (i : Fin 1024) (f : Fin 512) : EReal :=
  leaky (mm a.mu (fun x : Fin 256 => a.m1w (x.castAdd 256)) i f + mm a.agg (fun x : Fin 256 => a.m1w (x.natAdd 256)) i f + a.m1b f)
def h3 (i : Fin 1024) (f : Fin 256) : EReal := leaky (lin a.h2 a.m2w a.m2b i f)
/-- The hyperedges' features. -/
def xe (i : Fin 1024) (f : Fin 256) : EReal := lin a.h3 a.m3w a.m3b i f
def k2 (i : Fin 1024) (f : Fin 256) : EReal := lin a.xe a.kw a.kb i f
/-- The nodes' attention over the hyperedges. -/
def p2 (i : Fin 4096) (j : Fin 1024) : EReal := att (a.q2 i) a.k2 j
/-- The hyperedges each node takes. -/
def hard (i : Fin 4096) (j : Fin 1024) : EReal := mask (a.p2 i) (by decide) j

/-- Every argument is a real number. -/
structure Real : Prop where
  X : ∀ i j, IsReal (a.X i j)
  A : ∀ i j, IsReal (a.A i j)
  W1 : ∀ i j, IsReal (a.W1 i j)
  b1 : ∀ j, IsReal (a.b1 j)
  g1 : ∀ j, IsReal (a.g1 j)
  e1 : ∀ j, IsReal (a.e1 j)
  W2 : ∀ i j, IsReal (a.W2 i j)
  b2 : ∀ j, IsReal (a.b2 j)
  g2 : ∀ j, IsReal (a.g2 j)
  e2 : ∀ j, IsReal (a.e2 j)
  mu : ∀ i j, IsReal (a.mu i j)
  qw : ∀ i j, IsReal (a.qw i j)
  qb : ∀ j, IsReal (a.qb j)
  kw : ∀ i j, IsReal (a.kw i j)
  kb : ∀ j, IsReal (a.kb j)
  vw : ∀ i j, IsReal (a.vw i j)
  vb : ∀ j, IsReal (a.vb j)
  m1w : ∀ i j, IsReal (a.m1w i j)
  m1b : ∀ j, IsReal (a.m1b j)
  m2w : ∀ i j, IsReal (a.m2w i j)
  m2b : ∀ j, IsReal (a.m2b j)
  m3w : ∀ i j, IsReal (a.m3w i j)
  m3b : ∀ j, IsReal (a.m3b j)

variable {a}

namespace Real

variable (h : a.Real)
include h

theorem d (i : Fin 4096) : IsReal (a.d i) := isReal_dis _
theorem zp1 (i f) : IsReal (a.zp1 i f) := (h.d i).mul (isReal_mm h.X h.W1 i f)
theorem y1 (i f) : IsReal (a.y1 i f) := isReal_gcn h.A h.d h.zp1 h.b1 i f
theorem h1 (i f) : IsReal (a.h1 i f) := isReal_leaky (isReal_norm (h.y1 i) h.g1 h.e1 f)
theorem zp2 (i f) : IsReal (a.zp2 i f) := (h.d i).mul (isReal_mm h.h1 h.W2 i f)
theorem y2 (i f) : IsReal (a.y2 i f) := isReal_gcn h.A h.d h.zp2 h.b2 i f
theorem xv (i f) : IsReal (a.xv i f) := isReal_norm (h.y2 i) h.g2 h.e2 f
theorem q1 (i f) : IsReal (a.q1 i f) := isReal_lin h.mu h.qw h.qb i f
theorem k1 (i f) : IsReal (a.k1 i f) := isReal_lin h.xv h.kw h.kb i f
theorem v1 (i f) : IsReal (a.v1 i f) := isReal_lin h.xv h.vw h.vb i f
theorem q2 (i f) : IsReal (a.q2 i f) := isReal_lin h.xv h.qw h.qb i f
theorem p1 (i : Fin 1024) (j : Fin 4096) : ∃ r : ℝ, 0 ≤ r ∧ a.p1 i j = (r : EReal) :=
  soft_real (by decide) (isReal_logits (h.q1 i) h.k1) j
theorem agg (i f) : IsReal (a.agg i f) := isReal_mm (fun i j => isReal_mask (a.p1 i) (by decide) j) h.v1 i f
theorem h2 (i f) : IsReal (a.h2 i f) :=
  isReal_leaky (((isReal_mm h.mu (fun x f => h.m1w _ f) i f).add (isReal_mm h.agg (fun x f => h.m1w _ f) i f)).add (h.m1b f))
theorem h3 (i f) : IsReal (a.h3 i f) := isReal_leaky (isReal_lin h.h2 h.m2w h.m2b i f)
theorem xe (i f) : IsReal (a.xe i f) := isReal_lin h.h3 h.m3w h.m3b i f
theorem k2 (i f) : IsReal (a.k2 i f) := isReal_lin h.xe h.kw h.kb i f
theorem p2 (i : Fin 4096) (j : Fin 1024) : ∃ r : ℝ, 0 ≤ r ∧ a.p2 i j = (r : EReal) :=
  soft_real (by decide) (isReal_logits (h.q2 i) h.k2) j

end Real

end Args

/-- The arguments' buffers. -/
structure Bufs where
  x0 : (⟨2, ![4096,512]⟩ : Shape).Idx → EReal
  x1 : (⟨2, ![4096,4096]⟩ : Shape).Idx → EReal
  x2 : (⟨2, ![512,256]⟩ : Shape).Idx → EReal
  x3 : (⟨1, ![256]⟩ : Shape).Idx → EReal
  x4 : (⟨1, ![256]⟩ : Shape).Idx → EReal
  x5 : (⟨1, ![256]⟩ : Shape).Idx → EReal
  x6 : (⟨2, ![256,256]⟩ : Shape).Idx → EReal
  x7 : (⟨1, ![256]⟩ : Shape).Idx → EReal
  x8 : (⟨1, ![256]⟩ : Shape).Idx → EReal
  x9 : (⟨1, ![256]⟩ : Shape).Idx → EReal
  x10 : (⟨2, ![1024,256]⟩ : Shape).Idx → EReal
  x11 : (⟨2, ![256,256]⟩ : Shape).Idx → EReal
  x12 : (⟨1, ![256]⟩ : Shape).Idx → EReal
  x13 : (⟨2, ![256,256]⟩ : Shape).Idx → EReal
  x14 : (⟨1, ![256]⟩ : Shape).Idx → EReal
  x15 : (⟨2, ![256,256]⟩ : Shape).Idx → EReal
  x16 : (⟨1, ![256]⟩ : Shape).Idx → EReal
  x17 : (⟨2, ![512,512]⟩ : Shape).Idx → EReal
  x18 : (⟨1, ![512]⟩ : Shape).Idx → EReal
  x19 : (⟨2, ![512,256]⟩ : Shape).Idx → EReal
  x20 : (⟨1, ![256]⟩ : Shape).Idx → EReal
  x21 : (⟨2, ![256,256]⟩ : Shape).Idx → EReal
  x22 : (⟨1, ![256]⟩ : Shape).Idx → EReal

/-- The arguments read off their buffers. -/
def Bufs.args (b : Bufs) : Args where
  X := mat b.x0
  A := mat b.x1
  W1 := mat b.x2
  b1 := vec b.x3
  g1 := vec b.x4
  e1 := vec b.x5
  W2 := mat b.x6
  b2 := vec b.x7
  g2 := vec b.x8
  e2 := vec b.x9
  mu := mat b.x10
  qw := mat b.x11
  qb := vec b.x12
  kw := mat b.x13
  kb := vec b.x14
  vw := mat b.x15
  vb := vec b.x16
  m1w := mat b.x17
  m1b := vec b.x18
  m2w := mat b.x19
  m2b := vec b.x20
  m3w := mat b.x21
  m3b := vec b.x22

end Cert.Math
end
-- ==== Proof.Math.RefNodes.lean ====
module

public import proofs.«01_k».proof.Proof.Math.Net
public import proofs.«01_k».proof.Proof.Gen.ReferenceIdeal
public import proofs.«01_k».proof.Proof.Gen.ReferenceIdeal.Read
public import Idealize.ShloMosaic.Lib.Pointwise

@[expose] public section

set_option maxRecDepth 16384
set_option maxHeartbeats 2000000

noncomputable section

namespace Cert.Ref

open Idealize.ShloMosaic Cert.Math Cert.ReferenceIdeal Cert.ReferenceIdeal.Read

/-! The reference up to the nodes' features: each array at an index, by the layers of the network. -/

variable (b : Bufs)

theorem v4_at (i : Fin 4096) : val_main_v4 (F := Ideal) b.x1 (ix1 i) = b.args.d i := by
  pointwise [val_main_cst, val_main_v0, val_main_cst_0, val_main_v1, val_main_v2, val_main_call0_v0, val_main_call0_cst, val_main_call0_v1, val_main_v3, val_main_cst_1, val_main_call1_v0, val_main_call1_v1, val_main_v4]
  rw [lit_top]
  refine Eq.trans ?_ (dis_pow _)
  congr 1
  exact Ideal.ofBits_zero .f32

theorem v11_at (i : Fin 4096) (f : Fin 256) : val_main_v11 (F := Ideal) b.x0 b.x2 (ix2 i f) = mm b.args.X b.args.W1 i f := by
  pointwise [val_main_v11]
  rfl

theorem v15_at (i : Fin 4096) (f : Fin 256) : val_main_v15 (F := Ideal) b.x0 b.x1 b.x2 b.x3 (ix2 i f) = b.args.y1 i f := by
  pointwise [val_main_v5, val_main_v6, val_main_v7, val_main_v8, val_main_v9, val_main_v10, val_main_v12, val_main_v13, val_main_v14, val_main_v15]
  simp only [v4_at, v11_at]
  exact gcn_scaled b.args.A b.args.d (fun i => dis_real _) (mm b.args.X b.args.W1) b.args.b1 i f

theorem v39_at (i : Fin 4096) (f : Fin 256) : val_main_v39 (F := Ideal) b.x0 b.x1 b.x2 b.x3 b.x4 b.x5 (ix2 i f) = norm (b.args.y1 i) b.args.g1 b.args.e1 f := by
  pointwise [val_main_cst_2, val_main_v16, val_main_v17, val_main_cst_3, val_main_v18, val_main_v19, val_main_v20, val_main_v21, val_main_v22, val_main_cst_4, val_main_v23, val_main_v24, val_main_cst_5, val_main_v25, val_main_v26, val_main_v27, val_main_v28, val_main_cst_6, val_main_v29, val_main_v30, val_main_v31, val_main_v32, val_main_v33, val_main_v34, val_main_v35, val_main_v36, val_main_v37, val_main_v38, val_main_v39]
  simp only [v15_at]
  rfl

theorem v44_at (i : Fin 4096) (f : Fin 256) : val_main_v44 (F := Ideal) b.x0 b.x1 b.x2 b.x3 b.x4 b.x5 (ix2 i f) = b.args.h1 i f := by
  pointwise [val_main_cst_7, val_main_v40, val_main_v41, val_main_cst_8, val_main_v42, val_main_v43, val_main_v44]
  simp only [v39_at]
  rfl

theorem v49_at (i : Fin 4096) : val_main_v49 (F := Ideal) b.x1 (ix1 i) = b.args.d i := v4_at b i

theorem v60_at (i : Fin 4096) (f : Fin 256) : val_main_v60 (F := Ideal) b.x0 b.x1 b.x2 b.x3 b.x4 b.x5 b.x6 b.x7 (ix2 i f) = b.args.y2 i f := by
  pointwise [val_main_v50, val_main_v51, val_main_v52, val_main_v53, val_main_v54, val_main_v55, val_main_v56, val_main_v57, val_main_v58, val_main_v59, val_main_v60]
  simp only [v49_at, v44_at]
  exact gcn_scaled b.args.A b.args.d (fun i => dis_real _) (mm b.args.h1 b.args.W2) b.args.b2 i f

theorem v84_at (i : Fin 4096) (f : Fin 256) : val_main_v84 (F := Ideal) b.x0 b.x1 b.x2 b.x3 b.x4 b.x5 b.x6 b.x7 b.x8 b.x9 (ix2 i f) = b.args.xv i f := by
  pointwise [val_main_cst_12, val_main_v61, val_main_v62, val_main_cst_13, val_main_v63, val_main_v64, val_main_v65, val_main_v66, val_main_v67, val_main_cst_14, val_main_v68, val_main_v69, val_main_cst_15, val_main_v70, val_main_v71, val_main_v72, val_main_v73, val_main_cst_16, val_main_v74, val_main_v75, val_main_v76, val_main_v77, val_main_v78, val_main_v79, val_main_v80, val_main_v81, val_main_v82, val_main_v83, val_main_v84]
  simp only [v60_at]
  rfl

theorem v88_at (i : Fin 1024) (f : Fin 256) : val_main_v88 (F := Ideal) b.x10 b.x11 b.x12 (ix2 i f) = b.args.q1 i f := by
  pointwise [val_main_v85, val_main_v86, val_main_v87, val_main_v88]
  rfl

theorem v92_at (i : Fin 4096) (f : Fin 256) : val_main_v92 (F := Ideal) b.x0 b.x1 b.x2 b.x3 b.x4 b.x5 b.x6 b.x7 b.x8 b.x9 b.x13 b.x14 (ix2 i f) = b.args.k1 i f := by
  pointwise [val_main_v89, val_main_v90, val_main_v91, val_main_v92]
  simp only [v84_at]
  rfl

theorem v96_at (i : Fin 4096) (f : Fin 256) : val_main_v96 (F := Ideal) b.x0 b.x1 b.x2 b.x3 b.x4 b.x5 b.x6 b.x7 b.x8 b.x9 b.x15 b.x16 (ix2 i f) = b.args.v1 i f := by
  pointwise [val_main_v93, val_main_v94, val_main_v95, val_main_v96]
  simp only [v84_at]
  rfl

theorem v160_at (i : Fin 4096) (f : Fin 256) : val_main_v160 (F := Ideal) b.x0 b.x1 b.x2 b.x3 b.x4 b.x5 b.x6 b.x7 b.x8 b.x9 b.x11 b.x12 (ix2 i f) = b.args.q2 i f := by
  pointwise [val_main_v157, val_main_v158, val_main_v159, val_main_v160]
  simp only [v84_at]
  rfl

end Cert.Ref
end
-- ==== Proof.Math.Ops.lean ====
module

public import proofs.«01_k».proof.Proof.Math.Spec
public import Idealize.ShloMosaic.Lib.Pointwise
public import Idealize.ShloMosaic.Lib.Routing.OpsPair

@[expose] public section

noncomputable section

namespace Cert.Math

open Idealize.ShloMosaic

/-! Three of the reference's operations on matrices of any size: the greatest entry of each row, the places of a row's
greatest entries, and the matrix with one at those places. -/

variable {n m k : ℕ}

/-- The host's maximum along the rows. -/
theorem top_row (h : (⟨2, ![n, m]⟩ : Shape).ReducesTo [1] ⟨1, ![n]⟩) {u : Shape} (hu : 0 < u.numel)
    (x : (⟨2, ![n, m]⟩ : Shape).Idx → EReal) (v : u.Idx → EReal) (hv : ∀ i, v i = ⊥) (i : Fin n) :
    Host.reduce (FloatOps.maximumf (F := Ideal) (φ := .f32)) x v h hu (ix1 i) = top (fun j => x (ix2 i j)) := by
  have e : Host.reduce (max : EReal → EReal → EReal) x v h hu (ix1 i) = top (fun j => x (ix2 i j)) := by
    rw [Host.reduce_eq_fold, Shape.ReducesTo.fold_fiber_r2_a1, hv]
    rfl
  exact e

/-- The places of the `k` greatest entries of a row. -/
theorem topK_at (hk : k ≤ m) (gt : EReal → EReal → BitVec 1) (hgt : ∀ a b, (gt a b == 1#1) = decide (b < a))
    (x : (⟨2, ![n, m]⟩ : Shape).Idx → EReal) (h : (⟨2, ![n, m]⟩ : Shape).Slices (fun _ => 0) ⟨2, ![n, k]⟩) (i : Fin n) (q : Fin k) :
    (Host.topK ⟨2, ![n, k]⟩ 1 gt x h).2 (ix2 i q) = BitVec.ofNat 32 (sortedFrom (greater (fun j => x (ix2 i j))) (q.castLE hk)).val := by
  have e : (fun a => ⟨0 + ((ix2 i q : (⟨2, ![n, k]⟩ : Shape).Idx) (a.cast h.1.symm)).val,
      Nat.lt_of_lt_of_le (Nat.add_lt_add_left ((ix2 i q : (⟨2, ![n, k]⟩ : Shape).Idx) (a.cast h.1.symm)).isLt _) (h.2 a)⟩ : (⟨2, ![n, m]⟩ : Shape).Idx)
      = ix2 i (q.castLE hk) := by
    funext a
    match a with
    | ⟨0, _⟩ => exact Fin.ext (Nat.zero_add _)
    | ⟨1, _⟩ => exact Fin.ext (Nat.zero_add _)
  have al : ∀ (j k : Fin m), Shape.Idx.along (s := ⟨2, ![n, m]⟩) (ix2 i j) (1 : Fin 2) k = ix2 i k := by
    intro j k
    funext a
    match a with
    | ⟨0, _⟩ => rfl
    | ⟨1, _⟩ => rfl
  unfold Host.topK
  simp only
  unfold extractStridedSlice
  refine (congrArg _ e).trans ?_
  unfold Host.sort2
  rw [dif_pos (show 1 < 2 by decide)]
  exact congrArg (fun f => BitVec.ofNat 32 (sortedFrom (n := m) f (q.castLE hk)).val) (funext fun a => funext fun b =>
    (hgt _ _).trans (congrArg₂ (fun v w => decide (x v < x w)) (al (q.castLE hk) b) (al (q.castLE hk) a)))

/-- A one put at each place of a list of places: an entry is one when some place is its own. -/
theorem foldl_ones {ι : Type} (l : List ι) (P : ι → Prop) [DecidablePred P] (f : ι → EReal) (hf : ∀ n, f n = 1) (a : EReal) :
    l.foldl (fun a n => if P n then f n else a) a = if ∃ n ∈ l, P n then 1 else a := by
  induction l generalizing a with
  | nil => simp
  | cons x l ih =>
    rw [List.foldl_cons, ih]
    by_cases h : P x
    · simp [h, hf]
    · simp [h]

/-- The matrix with one at the places of each row's `10` greatest entries. -/
theorem scatter_mask (hm : 10 ≤ m) (hm31 : m < 2 ^ 31) (hn31 : n < 2 ^ 31)
    (d : ScatterDims ⟨2, ![n, m]⟩ ⟨3, ![n, 10, 2]⟩ ⟨2, ![n, 10]⟩) (hiw : d.insertedWindowDims = [0, 1])
    (hsd : d.scatterDimsToOperandDims = [0, 1]) (hivd : d.indexVectorDim = 2) (p : Fin n → Fin m → EReal)
    (z : (⟨2, ![n, m]⟩ : Shape).Idx → EReal) (hz : ∀ i, z i = 0) (u : (⟨2, ![n, 10]⟩ : Shape).Idx → EReal) (hu : ∀ i, u i = 1)
    (t : IVec ⟨3, ![n, 10, 2]⟩ 32) (h0 : ∀ i q, t (ix3 i q 0) = BitVec.ofNat 32 i.val)
    (h1 : ∀ i q, t (ix3 i q 1) = BitVec.ofNat 32 (sortedFrom (greater (p i)) (q.castLE hm)).val) (i : Fin n) (j : Fin m) :
    Host.scatter d (fun _ b => b) z t u (ix2 i j) = mask (p i) hm j := by
  rw [Routing.scatter_at, foldl_ones _ _ _ (fun n => hu _), hz]
  have key : ∀ a b, d.resultIdx? (ix2 a b) t = some (ix2 i j) ↔ a = i ∧ sortedFrom (greater (p a)) (b.castLE hm) = j := by
    intro a b
    have := Routing.scatter_lands2 d hiw hsd hivd t a b i j
    rw [← ix2_eq_valueIdx, ← ix2_eq_valueIdx, ← ix3_eq_valueIdx, ← ix3_eq_valueIdx, h0, h1,
      toInt_ofNat_small (lt_trans a.isLt hn31), toInt_ofNat_small (lt_trans (Fin.isLt _) hm31)] at this
    rw [this]
    constructor
    · rintro ⟨h, h'⟩
      exact ⟨Fin.ext (by exact_mod_cast h), Fin.ext (by exact_mod_cast h')⟩
    · rintro ⟨rfl, rfl⟩
      exact ⟨rfl, rfl⟩
  unfold mask sorted
  congr 1
  apply propext
  simp only [Finset.mem_image, Finset.mem_univ, true_and, List.mem_finRange]
  constructor
  · rintro ⟨x, hx⟩
    obtain ⟨a, b, e⟩ : ∃ (a : Fin n) (b : Fin 10), (⟨2, ![n, 10]⟩ : Shape).rowMajor.symm x = ix2 a b := ⟨_, _, eq_ix2 _⟩
    rw [e, key] at hx
    obtain ⟨h, h'⟩ := hx
    exact ⟨_, by rw [← h]; exact h'⟩
  · rintro ⟨q, hq⟩
    refine ⟨(⟨2, ![n, 10]⟩ : Shape).rowMajor (ix2 i q), ?_⟩
    rw [Equiv.symm_apply_apply, key]
    exact ⟨rfl, hq⟩

end Cert.Math
end
-- ==== Proof.Math.RefEdges.lean ====
module

public import proofs.«01_k».proof.Proof.Math.RefNodes
public import proofs.«01_k».proof.Proof.Gen.ReferenceIdeal
public import proofs.«01_k».proof.Proof.Gen.ReferenceIdeal.Read
public import proofs.«01_k».proof.Proof.Math.Ops
public import Idealize.ShloMosaic.Lib.Pointwise

@[expose] public section

set_option maxRecDepth 16384
set_option maxHeartbeats 2000000

noncomputable section

namespace Cert.Ref

open Idealize.ShloMosaic Cert.Math Cert.ReferenceIdeal Cert.ReferenceIdeal.Read

/-! The reference's attention of the hyperedges over the nodes, and their features. -/

variable (b : Bufs)

theorem gt_true (x y : EReal) : (FloatOps.cmpfTotal (F := Ideal) (φ := .f32) .gt x y == 1#1) = decide (y < x) := by
  show (Ideal.cmp .ogt x y == 1#1) = decide (y < x)
  unfold Ideal.cmp
  by_cases h : y < x <;> simp [h]

theorem lit_one : Ideal.ofBits .f32 0x3F800000#32 = 1 := by
  simp [Ideal.ofBits, Ideal.ieee, -EReal.coe_mul]
  norm_cast
  norm_num

theorem word_small {a : ℕ} (h : a < 2 ^ 31) : (BitVec.ofNat 32 a).toNat < 2 ^ (32 - 1) := by
  rw [BitVec.toNat_ofNat]
  omega

theorem v100_at (i : Fin 1024) (j : Fin 4096) : val_main_v100 (F := Ideal) b.x0 b.x1 b.x2 b.x3 b.x4 b.x5 b.x6 b.x7 b.x8 b.x9 b.x10 b.x11 b.x12 b.x13 b.x14 (ix2 i j) = logits (b.args.q1 i) b.args.k1 j := by
  pointwise [val_main_v97, val_main_v98, val_main_cst_17, val_main_v99, val_main_v100]
  simp only [v88_at, v92_at]
  exact div_sixteen _

theorem cst_18_at (i : S_.Idx) : val_main_cst_18 (F := Ideal) i = ⊥ := by
  rw [val_main_cst_18_apply]
  exact lit_bot

theorem v101_at (i : Fin 1024) : val_main_v101 (F := Ideal) b.x0 b.x1 b.x2 b.x3 b.x4 b.x5 b.x6 b.x7 b.x8 b.x9 b.x10 b.x11 b.x12 b.x13 b.x14 (ix1 i) = top (logits (b.args.q1 i) b.args.k1) := by
  rw [val_main_v101, top_row _ _ _ _ cst_18_at]
  exact congrArg top (funext fun j => v100_at b i j)

theorem v103_at (i : Fin 1024) : val_main_v103 (F := Ideal) b.x0 b.x1 b.x2 b.x3 b.x4 b.x5 b.x6 b.x7 b.x8 b.x9 b.x10 b.x11 b.x12 b.x13 b.x14 (ix1 i) = top (logits (b.args.q1 i) b.args.k1) := by
  rw [val_main_v103_apply, val_main_v102_apply, val_main_cst_19_apply, v101_at]
  exact (congrArg (fun x => max x _) lit_bot).trans (max_eq_right bot_le)

theorem v107_at (i : Fin 1024) (j : Fin 4096) : val_main_v107 (F := Ideal) b.x0 b.x1 b.x2 b.x3 b.x4 b.x5 b.x6 b.x7 b.x8 b.x9 b.x10 b.x11 b.x12 b.x13 b.x14 (ix2 i j) = Ideal.exp (logits (b.args.q1 i) b.args.k1 j - top (logits (b.args.q1 i) b.args.k1)) := by
  pointwise [val_main_v104, val_main_v105, val_main_v106, val_main_v107]
  rw [v100_at, v103_at]

theorem v111_at (i : Fin 1024) (j : Fin 4096) : val_main_v111 (F := Ideal) b.x0 b.x1 b.x2 b.x3 b.x4 b.x5 b.x6 b.x7 b.x8 b.x9 b.x10 b.x11 b.x12 b.x13 b.x14 (ix2 i j) = b.args.p1 i j := by
  pointwise [val_main_cst_20, val_main_v108, val_main_v109, val_main_v110, val_main_v111]
  simp only [v107_at]
  rfl

theorem indices_at (i : Fin 1024) (q : Fin 10) : val_main_indices (F := Ideal) b.x0 b.x1 b.x2 b.x3 b.x4 b.x5 b.x6 b.x7 b.x8 b.x9 b.x10 b.x11 b.x12 b.x13 b.x14 (ix2 i q) = BitVec.ofNat 32 (sortedFrom (greater (b.args.p1 i)) (q.castLE (by decide : 10 ≤ 4096))).val := by
  rw [val_main_indices, topK_at (by decide : 10 ≤ 4096) _ (fun x y => gt_true x y)]
  exact congrArg (fun p => BitVec.ofNat 32 (sortedFrom (greater p) (q.castLE (by decide : 10 ≤ 4096))).val) (funext fun j => v111_at b i j)

theorem v128_row (i : Fin 1024) (q : Fin 10) : val_main_v128 (F := Ideal) b.x0 b.x1 b.x2 b.x3 b.x4 b.x5 b.x6 b.x7 b.x8 b.x9 b.x10 b.x11 b.x12 b.x13 b.x14 (ix3 i q 0) = BitVec.ofNat 32 i.val := by
  pointwise [val_main_cst_21, val_main_v112, val_main_v113, val_main_v114, val_main_c, val_main_v115, val_main_v116, val_main_c_22, val_main_v117, val_main_v118, val_main_v119, val_main_c_23, val_main_v120, val_main_v121, val_main_c_24, val_main_v122, val_main_v123, val_main_v124, val_main_v125, val_main_v126, val_main_v127, val_main_v128]
  exact Routing.wrap_of_lt _ _ (word_small (lt_trans i.isLt (by decide)))

theorem v128_col (i : Fin 1024) (q : Fin 10) : val_main_v128 (F := Ideal) b.x0 b.x1 b.x2 b.x3 b.x4 b.x5 b.x6 b.x7 b.x8 b.x9 b.x10 b.x11 b.x12 b.x13 b.x14 (ix3 i q 1) = BitVec.ofNat 32 (sortedFrom (greater (b.args.p1 i)) (q.castLE (by decide : 10 ≤ 4096))).val := by
  pointwise [val_main_cst_21, val_main_v112, val_main_v113, val_main_v114, val_main_c, val_main_v115, val_main_v116, val_main_c_22, val_main_v117, val_main_v118, val_main_v119, val_main_c_23, val_main_v120, val_main_v121, val_main_c_24, val_main_v122, val_main_v123, val_main_v124, val_main_v125, val_main_v126, val_main_v127, val_main_v128]
  rw [indices_at]
  exact Routing.wrap_of_lt _ _ (word_small (lt_trans (Fin.isLt _) (by decide)))

theorem v112_at (i) : val_main_v112 (F := Ideal) i = 0 := by
  rw [val_main_v112_apply, val_main_cst_21_apply]
  exact Ideal.ofBits_zero .f32

theorem v129_at (i) : val_main_v129 (F := Ideal) i = 1 := by
  rw [val_main_v129_apply, val_main_cst_25_apply]
  exact lit_one

theorem v130_at (i : Fin 1024) (j : Fin 4096) : val_main_v130 (F := Ideal) b.x0 b.x1 b.x2 b.x3 b.x4 b.x5 b.x6 b.x7 b.x8 b.x9 b.x10 b.x11 b.x12 b.x13 b.x14 (ix2 i j) = mask (b.args.p1 i) (by decide : 10 ≤ 4096) j := by
  rw [val_main_v130]
  exact scatter_mask (by decide) (by decide) (by decide) _ rfl rfl rfl b.args.p1 _ v112_at _ v129_at _
    (v128_row b) (v128_col b) i j

theorem v132_at (h : b.args.Real) (i : Fin 1024) (j : Fin 4096) : val_main_v132 (F := Ideal) b.x0 b.x1 b.x2 b.x3 b.x4 b.x5 b.x6 b.x7 b.x8 b.x9 b.x10 b.x11 b.x12 b.x13 b.x14 (ix2 i j) = mask (b.args.p1 i) (by decide : 10 ≤ 4096) j := by
  rw [val_main_v132_apply, val_main_v131_apply, v130_at, v111_at]
  exact sub_add_real ((h.p1 i j).imp fun _ h => h.2)

end Cert.Ref
end
-- ==== Proof.Math.RefFeat.lean ====
module

public import proofs.«01_k».proof.Proof.Math.RefEdges
public import proofs.«01_k».proof.Proof.Gen.ReferenceIdeal
public import proofs.«01_k».proof.Proof.Gen.ReferenceIdeal.Read
public import Idealize.ShloMosaic.Lib.Pointwise

@[expose] public section

set_option maxRecDepth 16384
set_option maxHeartbeats 2000000

noncomputable section

namespace Cert.Ref

open Idealize.ShloMosaic Cert.Math Cert.ReferenceIdeal Cert.ReferenceIdeal.Read

/-! The reference from the hyperedges' attention to their features and keys. -/

variable (b : Bufs)

theorem v133_at (h : b.args.Real) (i : Fin 1024) (f : Fin 256) : val_main_v133 (F := Ideal) b.x0 b.x1 b.x2 b.x3 b.x4 b.x5 b.x6 b.x7 b.x8 b.x9 b.x10 b.x11 b.x12 b.x13 b.x14 b.x15 b.x16 (ix2 i f) = b.args.agg i f := by
  pointwise [val_main_v133]
  simp only [v132_at b h, v96_at]
  rfl

theorem v138_at (h : b.args.Real) (i : Fin 1024) (f : Fin 512) : val_main_v138 (F := Ideal) b.x0 b.x1 b.x2 b.x3 b.x4 b.x5 b.x6 b.x7 b.x8 b.x9 b.x10 b.x11 b.x12 b.x13 b.x14 b.x15 b.x16 b.x17 b.x18 (ix2 i f) = mm b.args.mu (fun x : Fin 256 => b.args.m1w (x.castAdd 256)) i f
      + mm b.args.agg (fun x : Fin 256 => b.args.m1w (x.natAdd 256)) i f + b.args.m1b f := by
  pointwise [val_main_v134, val_main_v135, val_main_v136, val_main_v137, val_main_v138]
  simp only [v133_at b h]
  rfl

theorem v143_at (h : b.args.Real) (i : Fin 1024) (f : Fin 512) : val_main_v143 (F := Ideal) b.x0 b.x1 b.x2 b.x3 b.x4 b.x5 b.x6 b.x7 b.x8 b.x9 b.x10 b.x11 b.x12 b.x13 b.x14 b.x15 b.x16 b.x17 b.x18 (ix2 i f) = b.args.h2 i f := by
  pointwise [val_main_cst_26, val_main_v139, val_main_v140, val_main_cst_27, val_main_v141, val_main_v142, val_main_v143]
  simp only [v138_at b h]
  rfl

theorem v152_at (h : b.args.Real) (i : Fin 1024) (f : Fin 256) : val_main_v152 (F := Ideal) b.x0 b.x1 b.x2 b.x3 b.x4 b.x5 b.x6 b.x7 b.x8 b.x9 b.x10 b.x11 b.x12 b.x13 b.x14 b.x15 b.x16 b.x17 b.x18 b.x19 b.x20 (ix2 i f) = b.args.h3 i f := by
  pointwise [val_main_v144, val_main_v145, val_main_v146, val_main_v147, val_main_cst_28, val_main_v148, val_main_v149, val_main_cst_29, val_main_v150, val_main_v151, val_main_v152]
  simp only [v143_at b h]
  rfl

theorem v156_at (h : b.args.Real) (i : Fin 1024) (f : Fin 256) : val_main_v156 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix2 i f) = b.args.xe i f := by
  pointwise [val_main_v153, val_main_v154, val_main_v155, val_main_v156]
  simp only [v152_at b h]
  rfl

theorem v164_at (h : b.args.Real) (i : Fin 1024) (f : Fin 256) : val_main_v164 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix2 i f) = b.args.k2 i f := by
  pointwise [val_main_v161, val_main_v162, val_main_v163, val_main_v164]
  simp only [v156_at b h]
  rfl

end Cert.Ref
end
-- ==== Proof.Math.RefNet.lean ====
module

public import proofs.«01_k».proof.Proof.Math.RefFeat
public import proofs.«01_k».proof.Proof.Gen.ReferenceIdeal
public import proofs.«01_k».proof.Proof.Gen.ReferenceIdeal.Read
public import Idealize.ShloMosaic.Lib.Pointwise

@[expose] public section

set_option maxRecDepth 16384
set_option maxHeartbeats 2000000

noncomputable section

namespace Cert.Ref

open Idealize.ShloMosaic Cert.Math Cert.ReferenceIdeal Cert.ReferenceIdeal.Read

/-! The reference's attention of the nodes over the hyperedges, and the incidence. -/

variable (b : Bufs)

theorem v168_at (h : b.args.Real) (i : Fin 4096) (j : Fin 1024) : val_main_v168 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix2 i j) = logits (b.args.q2 i) b.args.k2 j := by
  pointwise [val_main_v165, val_main_v166, val_main_cst_30, val_main_v167, val_main_v168]
  simp only [v160_at, v164_at b h]
  exact div_sixteen _

theorem cst_31_at (i : S_.Idx) : val_main_cst_31 (F := Ideal) i = ⊥ := by
  rw [val_main_cst_31_apply]
  exact lit_bot

theorem v169_at (h : b.args.Real) (i : Fin 4096) : val_main_v169 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix1 i) = top (logits (b.args.q2 i) b.args.k2) := by
  rw [val_main_v169, top_row _ _ _ _ cst_31_at]
  exact congrArg top (funext fun j => v168_at b h i j)

theorem v171_at (h : b.args.Real) (i : Fin 4096) : val_main_v171 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix1 i) = top (logits (b.args.q2 i) b.args.k2) := by
  rw [val_main_v171_apply, val_main_v170_apply, val_main_cst_32_apply, v169_at b h]
  exact (congrArg (fun x => max x _) lit_bot).trans (max_eq_right bot_le)

theorem v175_at (h : b.args.Real) (i : Fin 4096) (j : Fin 1024) : val_main_v175 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix2 i j) = Ideal.exp (logits (b.args.q2 i) b.args.k2 j - top (logits (b.args.q2 i) b.args.k2)) := by
  pointwise [val_main_v172, val_main_v173, val_main_v174, val_main_v175]
  rw [v168_at b h, v171_at b h]

theorem v179_at (h : b.args.Real) (i : Fin 4096) (j : Fin 1024) : val_main_v179 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix2 i j) = b.args.p2 i j := by
  pointwise [val_main_cst_33, val_main_v176, val_main_v177, val_main_v178, val_main_v179]
  simp only [v175_at b h]
  rfl

theorem indices_35_at (h : b.args.Real) (i : Fin 4096) (q : Fin 10) : val_main_indices_35 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix2 i q) = BitVec.ofNat 32 (sortedFrom (greater (b.args.p2 i)) (q.castLE (by decide : 10 ≤ 1024))).val := by
  rw [val_main_indices_35, topK_at (by decide : 10 ≤ 1024) _ (fun x y => gt_true x y)]
  exact congrArg (fun p => BitVec.ofNat 32 (sortedFrom (greater p) (q.castLE (by decide : 10 ≤ 1024))).val) (funext fun j => v179_at b h i j)

theorem v196_row (i : Fin 4096) (q : Fin 10) : val_main_v196 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix3 i q 0) = BitVec.ofNat 32 i.val := by
  pointwise [val_main_cst_36, val_main_v180, val_main_v181, val_main_v182, val_main_c_37, val_main_v183, val_main_v184, val_main_c_38, val_main_v185, val_main_v186, val_main_v187, val_main_c_39, val_main_v188, val_main_v189, val_main_c_40, val_main_v190, val_main_v191, val_main_v192, val_main_v193, val_main_v194, val_main_v195, val_main_v196]
  exact Routing.wrap_of_lt _ _ (word_small (lt_trans i.isLt (by decide)))

theorem v196_col (h : b.args.Real) (i : Fin 4096) (q : Fin 10) : val_main_v196 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix3 i q 1) = BitVec.ofNat 32 (sortedFrom (greater (b.args.p2 i)) (q.castLE (by decide : 10 ≤ 1024))).val := by
  pointwise [val_main_cst_36, val_main_v180, val_main_v181, val_main_v182, val_main_c_37, val_main_v183, val_main_v184, val_main_c_38, val_main_v185, val_main_v186, val_main_v187, val_main_c_39, val_main_v188, val_main_v189, val_main_c_40, val_main_v190, val_main_v191, val_main_v192, val_main_v193, val_main_v194, val_main_v195, val_main_v196]
  rw [indices_35_at b h]
  exact Routing.wrap_of_lt _ _ (word_small (lt_trans (Fin.isLt _) (by decide)))

theorem v180_at (i) : val_main_v180 (F := Ideal) i = 0 := by
  rw [val_main_v180_apply, val_main_cst_36_apply]
  exact Ideal.ofBits_zero .f32

theorem v197_at (i) : val_main_v197 (F := Ideal) i = 1 := by
  rw [val_main_v197_apply, val_main_cst_41_apply]
  exact lit_one

theorem v198_at (h : b.args.Real) (i : Fin 4096) (j : Fin 1024) : val_main_v198 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix2 i j) = b.args.hard i j := by
  rw [val_main_v198]
  unfold Args.hard
  exact scatter_mask (by decide) (by decide) (by decide) _ rfl rfl rfl b.args.p2 _ v180_at _ v197_at _
    (v196_row b) (v196_col b h) i j

theorem v200_at (h : b.args.Real) (i : Fin 4096) (j : Fin 1024) : val_main_v200 (F := Ideal) b.x0 b.x1 b.x2 b.x3 b.x4 b.x5 b.x6 b.x7 b.x8 b.x9 b.x10 b.x11 b.x12 b.x13 b.x14 b.x15 b.x16 b.x17 b.x18 b.x19 b.x20 b.x21 b.x22 (ix2 i j) = b.args.hard i j := by
  rw [val_main_v200_apply, val_main_v199_apply, v198_at b h, v179_at b h]
  exact sub_add_real ((h.p2 i j).imp fun _ h => h.2)

end Cert.Ref
end
-- ==== Proof.Value.R0.lean ====
module

public import proofs.«01_k».proof.Proof.Ideal.Region0
public import proofs.«01_k».proof.Proof.Math.Net
public import Idealize.ShloMosaic.Lib.Pipeline.ValueKit.Geometry
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe
open Cert.Math

/-! The first region's output arrays at an index. -/

variable (V : (c : Dev nD) → (b : Ref sig .tc) → Buf (Elt Ideal) ((c : Thread nD τ).loc b)) (c : Dev nD)

theorem zero2 : (![0, 0] : Fin 2 → ℕ) = fun _ => 0 := by decide

theorem pay0_1 (x : Vec Ideal S256x4096 .f32) (y : S256x1.Idx) : k0_pay1 x y = dis (∑ j, x (ix2 (y 0) j)) := by
  obtain ⟨p, q, rfl⟩ : ∃ (p : Fin 256) (q : Fin 1), y = ix2 p q := ⟨_, _, eq_ix2 y⟩
  pointwise [k0_pay1]
  rfl

theorem pay0_2 (x : Vec Ideal S256x4096 .f32) (y : Vec Ideal S256x512 .f32) (w : Vec Ideal S512x256 .f32) (z : S256x256.Idx) :
    k0_pay2 x y w z = dis (∑ j, x (ix2 (z 0) j)) * ∑ k, y (ix2 (z 0) k) * w (ix2 k (z 1)) := by
  obtain ⟨p, f, rfl⟩ : ∃ (p : Fin 256) (f : Fin 256), z = ix2 p f := ⟨_, _, eq_ix2 z⟩
  pointwise [k0_pay2]
  rw [pay0_1]
  rfl

theorem at0_0 (t : Fin cfg0.N) (p : Fin 256) (j : Fin 4096) (h : t.val * 256 + p.val < 4096) :
    (iblk0 V c 0 t : Vec Ideal S256x4096 .f32) (ix2 p j) = (V c main_arg1 : S4096x4096.Idx → EReal) (ix2 ⟨t.val * 256 + p.val, h⟩ j) := by
  have e : ∀ t : Fin cfg0.N, win0_0.index t = ![t.val, 0] := by decide +kernel
  blk_ext [iblk0, e t]
theorem at0_1 (t : Fin cfg0.N) (p : Fin 256) (j : Fin 512) (h : t.val * 256 + p.val < 4096) :
    (iblk0 V c 1 t : Vec Ideal S256x512 .f32) (ix2 p j) = (V c main_arg0 : S4096x512.Idx → EReal) (ix2 ⟨t.val * 256 + p.val, h⟩ j) := by
  have e : ∀ t : Fin cfg0.N, win0_1.index t = ![t.val, 0] := by decide +kernel
  blk_ext [iblk0, e t]
theorem at0_2 (t : Fin cfg0.N) (p : Fin 512) (j : Fin 256) :
    (iblk0 V c 2 t : Vec Ideal S512x256 .f32) (ix2 p j) = (V c main_arg2 : S512x256.Idx → EReal) (ix2 p j) := by
  have e : ∀ t : Fin cfg0.N, win0_2.index t = ![0, 0] := by decide +kernel
  blk_ext [iblk0, e t]

theorem row0 (t : Fin cfg0.N) (p : Fin 256) : t.val * 256 + p.val < 4096 := by
  have h : t.val < 16 := t.isLt
  omega

variable (a : Args) (hA : ∀ i j, (V c main_arg1 : S4096x4096.Idx → EReal) (ix2 i j) = a.A i j)
  (hX : ∀ i j, (V c main_arg0 : S4096x512.Idx → EReal) (ix2 i j) = a.X i j)
  (hW : ∀ i j, (V c main_arg2 : S512x256.Idx → EReal) (ix2 i j) = a.W1 i j)

include hA in
theorem arr0_3 : (dat0 V c).arrAt 3 cfg0.N = fun y : S4096x1.Idx => a.d (y 0) := by
  refine (dat0 V c).arrAt_eq_of_covers 3 _ (by decide +kernel) fun t hf (y : S256x1.Idx) => ?_
  have e : ∀ t : Fin cfg0.N, win0_3.index t = ![t.val, 0] := by decide +kernel
  have hi : (((win0_3.blk t).view.emb y 0 : Fin _) : ℕ) = t.val * 256 + (y 0).val := by blk_simp [e t]
  blk_simp
  rw [after0_3]
  unfold out0_3
  rw [View.canon_unit_zero zero2, View.ld_unit_zero zero2]
  refine ((pay0_1 _ y).trans (congrArg dis (Finset.sum_congr rfl fun j _ => ?_))).trans
    (congrArg a.d (Fin.ext hi.symm : (⟨t.val * 256 + (y 0).val, row0 t (y 0)⟩ : Fin 4096) = _))
  exact (at0_0 V c t (y 0) j (row0 t (y 0))).trans (hA _ _)

include hA hX hW in
theorem arr0_4 : (dat0 V c).arrAt 4 cfg0.N = fun y : S4096x256.Idx => a.zp1 (y 0) (y 1) := by
  refine (dat0 V c).arrAt_eq_of_covers 4 _ (by decide +kernel) fun t hf (y : S256x256.Idx) => ?_
  have e : ∀ t : Fin cfg0.N, win0_4.index t = ![t.val, 0] := by decide +kernel
  have hi : (((win0_4.blk t).view.emb y 0 : Fin _) : ℕ) = t.val * 256 + (y 0).val := by blk_simp [e t]
  have hj : (((win0_4.blk t).view.emb y 1 : Fin _) : ℕ) = (y 1).val := by blk_simp [e t]
  blk_simp
  rw [after0_4]
  unfold out0_4
  rw [View.canon_unit_zero zero2, View.ld_unit_zero zero2, View.ld_unit_zero zero2, View.ld_unit_zero zero2]
  refine ((pay0_2 _ _ _ y).trans (congrArg₂ (· * ·) (congrArg dis (Finset.sum_congr rfl fun j _ => ?_)) (Finset.sum_congr rfl fun j _ => ?_))).trans
    (congrArg₂ a.zp1 (Fin.ext hi.symm : (⟨t.val * 256 + (y 0).val, row0 t (y 0)⟩ : Fin 4096) = _) (Fin.ext hj.symm : (y 1 : Fin 256) = _))
  · exact (at0_0 V c t (y 0) j (row0 t (y 0))).trans (hA _ _)
  · exact congrArg₂ (· * ·) ((at0_1 V c t (y 0) j (row0 t (y 0))).trans (hX _ _)) ((at0_2 V c t j (y 1)).trans (hW _ _))

end Cert.KernelIdeal.Gen
end
-- ==== Proof.Value.P12.lean ====
module

public import proofs.«01_k».proof.Proof.Gen.KernelIdeal.Skeleton
public import proofs.«01_k».proof.Proof.Math.Net
public import Idealize.ShloMosaic.Lib.Pointwise

@[expose] public section

set_option maxRecDepth 16384

noncomputable section

namespace Cert.KernelIdeal.Gen

open Idealize.ShloMosaic
open Cert.Math

/-! What the second and third regions compute of their blocks, at an index. -/

theorem pay1_1 (y : S512x256.Idx) : (k1_pay1 (F := Ideal)) y = 0 := by
  obtain ⟨p, q, rfl⟩ : ∃ (p : Fin 512) (q : Fin 256), y = ix2 p q := ⟨_, _, eq_ix2 y⟩
  pointwise [k1_pay1]

theorem pay1_2 (s : Vec Ideal S512x256 .f32) (A : Vec Ideal S512x1024 .f32) (Z : Vec Ideal S1024x256 .f32) (p : Fin 512) (f : Fin 256) :
    k1_pay2 s A Z (ix2 p f) = s (ix2 p f) + ∑ k, A (ix2 p k) * Z (ix2 k f) := by
  pointwise [k1_pay2]

theorem pay1_4 (d : Vec Ideal S512x1 .f32) (s : Vec Ideal S512x256 .f32) (b g e : Vec Ideal S1x256 .f32) (p : Fin 512) (f : Fin 256) :
    k1_pay4 d s b g e (ix2 p f) = leaky (norm (fun x => d (ix2 p 0) * s (ix2 p x) + b (ix2 0 x)) (fun x => g (ix2 0 x)) (fun x => e (ix2 0 x)) f) := by
  pointwise [k1_pay4]
  rfl

theorem pay1_3 (h : FVec Ideal S512x256 .f32) (d : Vec Ideal S512x1 .f32) (W : Vec Ideal S256x256 .f32) (p : Fin 512) (f : Fin 256) :
    k1_pay3 h d W (ix2 p f) = d (ix2 p 0) * ∑ x, h (ix2 p x) * W (ix2 x f) := by
  pointwise [k1_pay3]

theorem pay2_1 (y : S512x256.Idx) : (k2_pay1 (F := Ideal)) y = 0 := by
  obtain ⟨p, q, rfl⟩ : ∃ (p : Fin 512) (q : Fin 256), y = ix2 p q := ⟨_, _, eq_ix2 y⟩
  pointwise [k2_pay1]

theorem pay2_2 (s : Vec Ideal S512x256 .f32) (A : Vec Ideal S512x1024 .f32) (Z : Vec Ideal S1024x256 .f32) (p : Fin 512) (f : Fin 256) :
    k2_pay2 s A Z (ix2 p f) = s (ix2 p f) + ∑ k, A (ix2 p k) * Z (ix2 k f) := by
  pointwise [k2_pay2]

theorem pay2_6 (d : Vec Ideal S512x1 .f32) (s : Vec Ideal S512x256 .f32) (b g e : Vec Ideal S1x256 .f32) (p : Fin 512) (f : Fin 256) :
    k2_pay6 d s b g e (ix2 p f) = norm (fun x => d (ix2 p 0) * s (ix2 p x) + b (ix2 0 x)) (fun x => g (ix2 0 x)) (fun x => e (ix2 0 x)) f := by
  pointwise [k2_pay6]
  rfl

theorem pay2_k (d : Vec Ideal S512x1 .f32) (s : Vec Ideal S512x256 .f32) (b g e : Vec Ideal S1x256 .f32) (W : Vec Ideal S256x256 .f32)
    (r : Vec Ideal S1x256 .f32) (p : Fin 512) (f : Fin 256) :
    k2_pay3 (k2_pay7 d s b g e W) (k2_pay8 r) (ix2 p f) = (∑ x, k2_pay6 d s b g e (ix2 p x) * W (ix2 x f)) + r (ix2 0 f) := by
  pointwise [k2_pay3, k2_pay7, k2_pay8]

theorem pay2_4 (h : FVec Ideal S512x256 .f32) (W : Vec Ideal S256x256 .f32) (r : Vec Ideal S1x256 .f32) (p : Fin 512) (f : Fin 256) :
    k2_pay4 h W r (ix2 p f) = (∑ x, h (ix2 p x) * W (ix2 x f)) + r (ix2 0 f) := by
  pointwise [k2_pay4]

theorem pay2_5 (h : FVec Ideal S512x256 .f32) (W : Vec Ideal S256x256 .f32) (r : Vec Ideal S1x256 .f32) (p : Fin 512) (f : Fin 256) :
    k2_pay5 h W r (ix2 p f) = (∑ x, h (ix2 p x) * W (ix2 x f)) + r (ix2 0 f) := by
  pointwise [k2_pay5]

end Cert.KernelIdeal.Gen
end
-- ==== Proof.Math.Blocks.lean ====
module

public import proofs.«01_k».proof.Proof.Math.Net

@[expose] public section

noncomputable section

namespace Cert.Math

/-! A sum over the nodes taken in four blocks of 1024. -/

/-- The sum over block `s`. -/
def part (g : Fin 4096 → EReal) (s : ℕ) : EReal := ∑ k : Fin 1024, if h : s * 1024 + k.val < 4096 then g ⟨s * 1024 + k.val, h⟩ else 0

theorem sum_parts (g : Fin 4096 → EReal) : ∑ s ∈ Finset.range 4, part g s = ∑ j, g j := by
  rw [Finset.sum_range]
  have e : ∀ (s : Fin 4) (k : Fin 1024), (if h : s.val * 1024 + k.val < 4096 then g ⟨s.val * 1024 + k.val, h⟩ else 0)
      = g (finProdFinEquiv (m := 4) (n := 1024) (s, k)) := by
    intro s k
    rw [dif_pos (by omega)]
    exact congrArg g (Fin.ext (by simp only [finProdFinEquiv_apply_val]; omega))
  unfold part
  simp only [e]
  rw [← Fintype.sum_prod_type' (f := fun (s : Fin 4) (k : Fin 1024) => g (finProdFinEquiv (m := 4) (n := 1024) (s, k)))]
  exact Fintype.sum_equiv (finProdFinEquiv (m := 4) (n := 1024)) _ _ fun x => rfl

end Cert.Math
end
-- ==== Proof.Value.R1.lean ====
module

public import proofs.«01_k».proof.Proof.Ideal.Region1
public import proofs.«01_k».proof.Proof.Value.P12
public import proofs.«01_k».proof.Proof.Math.Blocks
public import Idealize.ShloMosaic.Lib.Pipeline.ValueKit.Geometry
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe
open Cert.Math

/-! The region of the first layer's convolution: its output arrays at an index. -/

variable (V : (c : Dev nD) → (b : Ref sig .tc) → Buf (Elt Ideal) ((c : Thread nD τ).loc b)) (c : Dev nD)

theorem row1 (t : Fin cfg1.N) (p : Fin 512) : t.val / 4 * 512 + p.val < 4096 := by
  have h : t.val < 32 := t.isLt
  omega
theorem col1 (t : Fin cfg1.N) (k : Fin 1024) : t.val % 4 * 1024 + k.val < 4096 := by omega

theorem at1_0 (t : Fin cfg1.N) (p : Fin 512) (q : Fin 1024) (h : t.val / 4 * 512 + p.val < 4096) (h' : t.val % 4 * 1024 + q.val < 4096) :
    (iblk1 V c 0 t : Vec Ideal S512x1024 .f32) (ix2 p q) = (V c main_arg1 : S4096x4096.Idx → EReal) (ix2 ⟨t.val / 4 * 512 + p.val, h⟩ ⟨t.val % 4 * 1024 + q.val, h'⟩) := by
  have e : ∀ t : Fin cfg1.N, win1_0.index t = ![t.val / 4, t.val % 4] := by decide +kernel
  blk_ext [iblk1, e t]

theorem at1_1 (t : Fin cfg1.N) (p : Fin 1024) (q : Fin 256) (h : t.val % 4 * 1024 + p.val < 4096) :
    (iblk1 V c 1 t : Vec Ideal S1024x256 .f32) (ix2 p q) = (V c main_v0_1 : S4096x256.Idx → EReal) (ix2 ⟨t.val % 4 * 1024 + p.val, h⟩ q) := by
  have e : ∀ t : Fin cfg1.N, win1_1.index t = ![t.val % 4, 0] := by decide +kernel
  blk_ext [iblk1, e t]

theorem at1_2 (t : Fin cfg1.N) (p : Fin 512) (q : Fin 1) (h : t.val / 4 * 512 + p.val < 4096) :
    (iblk1 V c 2 t : Vec Ideal S512x1 .f32) (ix2 p q) = (V c main_v0_0 : S4096x1.Idx → EReal) (ix2 ⟨t.val / 4 * 512 + p.val, h⟩ q) := by
  have e : ∀ t : Fin cfg1.N, win1_2.index t = ![t.val / 4, 0] := by decide +kernel
  blk_ext [iblk1, e t]

theorem at1_3 (t : Fin cfg1.N) (p : Fin 1) (q : Fin 256) :
    (iblk1 V c 3 t : Vec Ideal S1x256 .f32) (ix2 p q) = (V c main_v1 : S1x256.Idx → EReal) (ix2 p q) := by
  have e : ∀ t : Fin cfg1.N, win1_3.index t = ![0, 0] := by decide +kernel
  blk_ext [iblk1, e t]

theorem at1_4 (t : Fin cfg1.N) (p : Fin 1) (q : Fin 256) :
    (iblk1 V c 4 t : Vec Ideal S1x256 .f32) (ix2 p q) = (V c main_v2 : S1x256.Idx → EReal) (ix2 p q) := by
  have e : ∀ t : Fin cfg1.N, win1_4.index t = ![0, 0] := by decide +kernel
  blk_ext [iblk1, e t]

theorem at1_5 (t : Fin cfg1.N) (p : Fin 1) (q : Fin 256) :
    (iblk1 V c 5 t : Vec Ideal S1x256 .f32) (ix2 p q) = (V c main_v3 : S1x256.Idx → EReal) (ix2 p q) := by
  have e : ∀ t : Fin cfg1.N, win1_5.index t = ![0, 0] := by decide +kernel
  blk_ext [iblk1, e t]

theorem at1_6 (t : Fin cfg1.N) (p : Fin 256) (q : Fin 256) :
    (iblk1 V c 6 t : Vec Ideal S256x256 .f32) (ix2 p q) = (V c main_arg6 : S256x256.Idx → EReal) (ix2 p q) := by
  have e : ∀ t : Fin cfg1.N, win1_6.index t = ![0, 0] := by decide +kernel
  blk_ext [iblk1, e t]

/-- What the region finds in the arrays it reads. -/
structure In1 (a : Args) : Prop where
  A : ∀ i j, (V c main_arg1 : S4096x4096.Idx → EReal) (ix2 i j) = a.A i j
  Z : ∀ i j, (V c main_v0_1 : S4096x256.Idx → EReal) (ix2 i j) = a.zp1 i j
  d : ∀ i, (V c main_v0_0 : S4096x1.Idx → EReal) (ix2 i 0) = a.d i
  b : ∀ j, (V c main_v1 : S1x256.Idx → EReal) (ix2 0 j) = a.b1 j
  g : ∀ j, (V c main_v2 : S1x256.Idx → EReal) (ix2 0 j) = a.g1 j
  e : ∀ j, (V c main_v3 : S1x256.Idx → EReal) (ix2 0 j) = a.e1 j
  W : ∀ i j, (V c main_arg6 : S256x256.Idx → EReal) (ix2 i j) = a.W2 i j

variable (a : Args) (hI : In1 V c a)
include hI

/-- The accumulator after a point: the blocks of the sum so far. -/
theorem acc1_at (n : ℕ) : ∀ (t : Fin cfg1.N), t.val % 4 = n → ∀ (p : Fin 512) (f : Fin 256),
    acc1 V c (t.val + 1) (ix2 p f) = ∑ s ∈ Finset.range (n + 1), part (fun j => a.A ⟨t.val / 4 * 512 + p.val, row1 t p⟩ j * a.zp1 j f) s := by
  have term : ∀ (t : Fin cfg1.N) (M : S512x1024.Idx → EReal) (Z : S1024x256.Idx → EReal), M = iblk1 V c 0 t → Z = iblk1 V c 1 t →
      ∀ (p : Fin 512) (f : Fin 256), ∑ k, M (ix2 p k) * Z (ix2 k f)
        = part (fun j => a.A ⟨t.val / 4 * 512 + p.val, row1 t p⟩ j * a.zp1 j f) (t.val % 4) := by
    intro t M Z hM hZ p f
    unfold part
    refine Finset.sum_congr rfl fun k _ => ?_
    rw [dif_pos (col1 t k)]
    exact congrArg₂ (· * ·) ((congrFun hM _).trans ((at1_0 V c t p k (row1 t p) (col1 t k)).trans (hI.A _ _)))
      ((congrFun hZ _).trans ((at1_1 V c t k f (col1 t k)).trans (hI.Z _ _)))
  induction n with
  | zero =>
    intro t ht p f
    rw [acc1_first V c t ht]
    refine (pay1_2 _ _ _ p f).trans ?_
    rw [pay1_1, zero_add, Finset.sum_range_one]
    refine (term t _ _ rfl rfl p f).trans ?_
    rw [ht]
  | succ n ih =>
    intro t ht p f
    rw [acc1_next V c t (by omega)]
    refine (pay1_2 _ _ _ p f).trans ?_
    rw [Finset.sum_range_succ, ← ht]
    refine congrArg₂ (· + ·) ?_ (term t _ _ rfl rfl p f)
    have h := ih ⟨t.val - 1, by have := t.isLt; omega⟩ (by show (t.val - 1) % 4 = n; omega) p f
    have e1 : t.val - 1 + 1 = t.val := by omega
    have e2 : (t.val - 1) / 4 = t.val / 4 := by omega
    simp only [e1, e2] at h
    rw [ht]
    exact h

theorem full1 (t : Fin cfg1.N) (ht : t.val % 4 = 3) (D : S512x1.Idx → EReal) (B : S1x256.Idx → EReal)
    (hD : D = iblk1 V c 2 t) (hB : B = iblk1 V c 3 t) (p : Fin 512) (f : Fin 256) :
    D (ix2 p 0) * acc1 V c (t.val + 1) (ix2 p f) + B (ix2 0 f)
      = a.y1 ⟨t.val / 4 * 512 + p.val, row1 t p⟩ f := by
  rw [acc1_at V c a hI 3 t ht, sum_parts]
  exact congrArg₂ (· + ·) (congrArg (· * _) ((congrFun hD _).trans ((at1_2 V c t p 0 (row1 t p)).trans (hI.d _)))) ((congrFun hB _).trans ((at1_3 V c t 0 f).trans (hI.b _)))

theorem hid1 (t : Fin cfg1.N) (ht : t.val % 4 = 3) (p : Fin 512) (f : Fin 256) :
    k1_pay4 (iblk1 V c 2 t) (acc1 V c (t.val + 1)) (iblk1 V c 3 t) (iblk1 V c 4 t) (iblk1 V c 5 t) (ix2 p f)
      = a.h1 ⟨t.val / 4 * 512 + p.val, row1 t p⟩ f := by
  refine (pay1_4 _ _ _ _ _ p f).trans (congrArg leaky ?_)
  have hy := funext fun x => full1 V c a hI t ht _ _ rfl rfl p x
  have hg := funext fun x => (at1_4 V c t 0 x).trans (hI.g x)
  have he := funext fun x => (at1_5 V c t 0 x).trans (hI.e x)
  exact congrFun (congr (congr (congrArg Cert.Math.norm hy) hg) he) f

theorem val1_7 (t : Fin cfg1.N) (ht : t.val % 4 = 3) (y : S512x256.Idx) :
    k1_pay3 (k1_pay4 (iblk1 V c 2 t) (acc1 V c (t.val + 1)) (iblk1 V c 3 t) (iblk1 V c 4 t) (iblk1 V c 5 t)) (iblk1 V c 2 t) (iblk1 V c 6 t) y
      = a.zp2 ⟨t.val / 4 * 512 + (y 0).val, row1 t (y 0)⟩ (y 1) := by
  obtain ⟨p, f, rfl⟩ : ∃ (p : Fin 512) (f : Fin 256), y = ix2 p f := ⟨_, _, eq_ix2 y⟩
  refine (pay1_3 _ _ _ p f).trans (congrArg₂ (· * ·) ((at1_2 V c t p 0 (row1 t p)).trans (hI.d _)) (Finset.sum_congr rfl fun x _ => ?_))
  exact congrArg₂ (· * ·) (hid1 V c a hI t ht p x) ((at1_6 V c t x f).trans (hI.W _ _))

theorem arr1_7 : (dat1 V c).arrAt 7 cfg1.N = fun y : S4096x256.Idx => a.zp2 (y 0) (y 1) := by
  refine (dat1 V c).arrAt_eq_of_covers 7 _ (by decide +kernel) fun t hf (y : S512x256.Idx) => ?_
  have e : ∀ t : Fin cfg1.N, win1_7.index t = ![t.val / 4, 0] := by decide +kernel
  have hi : (((win1_7.blk t).view.emb y 0 : Fin _) : ℕ) = t.val / 4 * 512 + (y 0).val := by blk_simp [e t]
  have hj : (((win1_7.blk t).view.emb y 1 : Fin _) : ℕ) = (y 1).val := by blk_simp [e t]
  blk_simp
  rw [after1_7]
  refine Eq.trans ?_ (congrArg₂ a.zp2 (Fin.ext hi.symm : (⟨t.val / 4 * 512 + (y 0).val, row1 t (y 0)⟩ : Fin 4096) = _) (Fin.ext hj.symm : (y 1 : Fin 256) = _))
  exact val1_7 V c a hI t ((flush1_7 t).mp hf) y

end Cert.KernelIdeal.Gen
end
-- ==== Proof.Value.R2.lean ====
module

public import proofs.«01_k».proof.Proof.Ideal.Region2
public import proofs.«01_k».proof.Proof.Value.P12
public import proofs.«01_k».proof.Proof.Math.Blocks
public import Idealize.ShloMosaic.Lib.Pipeline.ValueKit.Geometry
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe
open Cert.Math

/-! The region of the second layer's convolution: its output arrays at an index. -/

variable (V : (c : Dev nD) → (b : Ref sig .tc) → Buf (Elt Ideal) ((c : Thread nD τ).loc b)) (c : Dev nD)

theorem row2 (t : Fin cfg2.N) (p : Fin 512) : t.val / 4 * 512 + p.val < 4096 := by
  have h : t.val < 32 := t.isLt
  omega
theorem col2 (t : Fin cfg2.N) (k : Fin 1024) : t.val % 4 * 1024 + k.val < 4096 := by omega

theorem at2_0 (t : Fin cfg2.N) (p : Fin 512) (q : Fin 1024) (h : t.val / 4 * 512 + p.val < 4096) (h' : t.val % 4 * 1024 + q.val < 4096) :
    (iblk2 V c 0 t : Vec Ideal S512x1024 .f32) (ix2 p q) = (V c main_arg1 : S4096x4096.Idx → EReal) (ix2 ⟨t.val / 4 * 512 + p.val, h⟩ ⟨t.val % 4 * 1024 + q.val, h'⟩) := by
  have e : ∀ t : Fin cfg2.N, win2_0.index t = ![t.val / 4, t.val % 4] := by decide +kernel
  blk_ext [iblk2, e t]

theorem at2_1 (t : Fin cfg2.N) (p : Fin 1024) (q : Fin 256) (h : t.val % 4 * 1024 + p.val < 4096) :
    (iblk2 V c 1 t : Vec Ideal S1024x256 .f32) (ix2 p q) = (V c main_v4 : S4096x256.Idx → EReal) (ix2 ⟨t.val % 4 * 1024 + p.val, h⟩ q) := by
  have e : ∀ t : Fin cfg2.N, win2_1.index t = ![t.val % 4, 0] := by decide +kernel
  blk_ext [iblk2, e t]

theorem at2_2 (t : Fin cfg2.N) (p : Fin 512) (q : Fin 1) (h : t.val / 4 * 512 + p.val < 4096) :
    (iblk2 V c 2 t : Vec Ideal S512x1 .f32) (ix2 p q) = (V c main_v0_0 : S4096x1.Idx → EReal) (ix2 ⟨t.val / 4 * 512 + p.val, h⟩ q) := by
  have e : ∀ t : Fin cfg2.N, win2_2.index t = ![t.val / 4, 0] := by decide +kernel
  blk_ext [iblk2, e t]

theorem at2_3 (t : Fin cfg2.N) (p : Fin 1) (q : Fin 256) :
    (iblk2 V c 3 t : Vec Ideal S1x256 .f32) (ix2 p q) = (V c main_v5 : S1x256.Idx → EReal) (ix2 p q) := by
  have e : ∀ t : Fin cfg2.N, win2_3.index t = ![0, 0] := by decide +kernel
  blk_ext [iblk2, e t]

theorem at2_4 (t : Fin cfg2.N) (p : Fin 1) (q : Fin 256) :
    (iblk2 V c 4 t : Vec Ideal S1x256 .f32) (ix2 p q) = (V c main_v6 : S1x256.Idx → EReal) (ix2 p q) := by
  have e : ∀ t : Fin cfg2.N, win2_4.index t = ![0, 0] := by decide +kernel
  blk_ext [iblk2, e t]

theorem at2_5 (t : Fin cfg2.N) (p : Fin 1) (q : Fin 256) :
    (iblk2 V c 5 t : Vec Ideal S1x256 .f32) (ix2 p q) = (V c main_v7 : S1x256.Idx → EReal) (ix2 p q) := by
  have e : ∀ t : Fin cfg2.N, win2_5.index t = ![0, 0] := by decide +kernel
  blk_ext [iblk2, e t]

theorem at2_6 (t : Fin cfg2.N) (p : Fin 256) (q : Fin 256) :
    (iblk2 V c 6 t : Vec Ideal S256x256 .f32) (ix2 p q) = (V c main_arg13 : S256x256.Idx → EReal) (ix2 p q) := by
  have e : ∀ t : Fin cfg2.N, win2_6.index t = ![0, 0] := by decide +kernel
  blk_ext [iblk2, e t]

theorem at2_7 (t : Fin cfg2.N) (p : Fin 1) (q : Fin 256) :
    (iblk2 V c 7 t : Vec Ideal S1x256 .f32) (ix2 p q) = (V c main_v8 : S1x256.Idx → EReal) (ix2 p q) := by
  have e : ∀ t : Fin cfg2.N, win2_7.index t = ![0, 0] := by decide +kernel
  blk_ext [iblk2, e t]

theorem at2_8 (t : Fin cfg2.N) (p : Fin 256) (q : Fin 256) :
    (iblk2 V c 8 t : Vec Ideal S256x256 .f32) (ix2 p q) = (V c main_arg15 : S256x256.Idx → EReal) (ix2 p q) := by
  have e : ∀ t : Fin cfg2.N, win2_8.index t = ![0, 0] := by decide +kernel
  blk_ext [iblk2, e t]

theorem at2_9 (t : Fin cfg2.N) (p : Fin 1) (q : Fin 256) :
    (iblk2 V c 9 t : Vec Ideal S1x256 .f32) (ix2 p q) = (V c main_v9 : S1x256.Idx → EReal) (ix2 p q) := by
  have e : ∀ t : Fin cfg2.N, win2_9.index t = ![0, 0] := by decide +kernel
  blk_ext [iblk2, e t]

theorem at2_10 (t : Fin cfg2.N) (p : Fin 256) (q : Fin 256) :
    (iblk2 V c 10 t : Vec Ideal S256x256 .f32) (ix2 p q) = (V c main_arg11 : S256x256.Idx → EReal) (ix2 p q) := by
  have e : ∀ t : Fin cfg2.N, win2_10.index t = ![0, 0] := by decide +kernel
  blk_ext [iblk2, e t]

theorem at2_11 (t : Fin cfg2.N) (p : Fin 1) (q : Fin 256) :
    (iblk2 V c 11 t : Vec Ideal S1x256 .f32) (ix2 p q) = (V c main_v10 : S1x256.Idx → EReal) (ix2 p q) := by
  have e : ∀ t : Fin cfg2.N, win2_11.index t = ![0, 0] := by decide +kernel
  blk_ext [iblk2, e t]

/-- What the region finds in the arrays it reads. -/
structure In2 (a : Args) : Prop where
  A : ∀ i j, (V c main_arg1 : S4096x4096.Idx → EReal) (ix2 i j) = a.A i j
  Z : ∀ i j, (V c main_v4 : S4096x256.Idx → EReal) (ix2 i j) = a.zp2 i j
  d : ∀ i, (V c main_v0_0 : S4096x1.Idx → EReal) (ix2 i 0) = a.d i
  b : ∀ j, (V c main_v5 : S1x256.Idx → EReal) (ix2 0 j) = a.b2 j
  g : ∀ j, (V c main_v6 : S1x256.Idx → EReal) (ix2 0 j) = a.g2 j
  e : ∀ j, (V c main_v7 : S1x256.Idx → EReal) (ix2 0 j) = a.e2 j
  kw : ∀ i j, (V c main_arg13 : S256x256.Idx → EReal) (ix2 i j) = a.kw i j
  kb : ∀ j, (V c main_v8 : S1x256.Idx → EReal) (ix2 0 j) = a.kb j
  vw : ∀ i j, (V c main_arg15 : S256x256.Idx → EReal) (ix2 i j) = a.vw i j
  vb : ∀ j, (V c main_v9 : S1x256.Idx → EReal) (ix2 0 j) = a.vb j
  qw : ∀ i j, (V c main_arg11 : S256x256.Idx → EReal) (ix2 i j) = a.qw i j
  qb : ∀ j, (V c main_v10 : S1x256.Idx → EReal) (ix2 0 j) = a.qb j

variable (a : Args) (hI : In2 V c a)
include hI

/-- The accumulator after a point: the blocks of the sum so far. -/
theorem acc2_at (n : ℕ) : ∀ (t : Fin cfg2.N), t.val % 4 = n → ∀ (p : Fin 512) (f : Fin 256),
    acc2 V c (t.val + 1) (ix2 p f) = ∑ s ∈ Finset.range (n + 1), part (fun j => a.A ⟨t.val / 4 * 512 + p.val, row2 t p⟩ j * a.zp2 j f) s := by
  have term : ∀ (t : Fin cfg2.N) (M : S512x1024.Idx → EReal) (Z : S1024x256.Idx → EReal), M = iblk2 V c 0 t → Z = iblk2 V c 1 t →
      ∀ (p : Fin 512) (f : Fin 256), ∑ k, M (ix2 p k) * Z (ix2 k f)
        = part (fun j => a.A ⟨t.val / 4 * 512 + p.val, row2 t p⟩ j * a.zp2 j f) (t.val % 4) := by
    intro t M Z hM hZ p f
    unfold part
    refine Finset.sum_congr rfl fun k _ => ?_
    rw [dif_pos (col2 t k)]
    exact congrArg₂ (· * ·) ((congrFun hM _).trans ((at2_0 V c t p k (row2 t p) (col2 t k)).trans (hI.A _ _)))
      ((congrFun hZ _).trans ((at2_1 V c t k f (col2 t k)).trans (hI.Z _ _)))
  induction n with
  | zero =>
    intro t ht p f
    rw [acc2_first V c t ht]
    refine (pay2_2 _ _ _ p f).trans ?_
    rw [pay2_1, zero_add, Finset.sum_range_one]
    refine (term t _ _ rfl rfl p f).trans ?_
    rw [ht]
  | succ n ih =>
    intro t ht p f
    rw [acc2_next V c t (by omega)]
    refine (pay2_2 _ _ _ p f).trans ?_
    rw [Finset.sum_range_succ, ← ht]
    refine congrArg₂ (· + ·) ?_ (term t _ _ rfl rfl p f)
    have h := ih ⟨t.val - 1, by have := t.isLt; omega⟩ (by show (t.val - 1) % 4 = n; omega) p f
    have e1 : t.val - 1 + 1 = t.val := by omega
    have e2 : (t.val - 1) / 4 = t.val / 4 := by omega
    simp only [e1, e2] at h
    rw [ht]
    exact h

theorem full2 (t : Fin cfg2.N) (ht : t.val % 4 = 3) (D : S512x1.Idx → EReal) (B : S1x256.Idx → EReal)
    (hD : D = iblk2 V c 2 t) (hB : B = iblk2 V c 3 t) (p : Fin 512) (f : Fin 256) :
    D (ix2 p 0) * acc2 V c (t.val + 1) (ix2 p f) + B (ix2 0 f)
      = a.y2 ⟨t.val / 4 * 512 + p.val, row2 t p⟩ f := by
  rw [acc2_at V c a hI 3 t ht, sum_parts]
  exact congrArg₂ (· + ·) (congrArg (· * _) ((congrFun hD _).trans ((at2_2 V c t p 0 (row2 t p)).trans (hI.d _)))) ((congrFun hB _).trans ((at2_3 V c t 0 f).trans (hI.b _)))

theorem hid2 (t : Fin cfg2.N) (ht : t.val % 4 = 3) (p : Fin 512) (f : Fin 256) :
    k2_pay6 (iblk2 V c 2 t) (acc2 V c (t.val + 1)) (iblk2 V c 3 t) (iblk2 V c 4 t) (iblk2 V c 5 t) (ix2 p f)
      = a.xv ⟨t.val / 4 * 512 + p.val, row2 t p⟩ f := by
  refine (pay2_6 _ _ _ _ _ p f).trans ?_
  have hy := funext fun x => full2 V c a hI t ht _ _ rfl rfl p x
  have hg := funext fun x => (at2_4 V c t 0 x).trans (hI.g x)
  have he := funext fun x => (at2_5 V c t 0 x).trans (hI.e x)
  exact congrFun (congr (congr (congrArg Cert.Math.norm hy) hg) he) f

theorem val2_12 (t : Fin cfg2.N) (ht : t.val % 4 = 3) (y : S512x256.Idx) :
    k2_pay3 (k2_pay7 (iblk2 V c 2 t) (acc2 V c (t.val + 1)) (iblk2 V c 3 t) (iblk2 V c 4 t) (iblk2 V c 5 t) (iblk2 V c 6 t)) (k2_pay8 (iblk2 V c 7 t)) y
      = a.k1 ⟨t.val / 4 * 512 + (y 0).val, row2 t (y 0)⟩ (y 1) := by
  obtain ⟨p, f, rfl⟩ : ∃ (p : Fin 512) (f : Fin 256), y = ix2 p f := ⟨_, _, eq_ix2 y⟩
  refine (pay2_k _ _ _ _ _ _ _ p f).trans (congrArg₂ (· + ·) (Finset.sum_congr rfl fun x _ => ?_) ((at2_7 V c t 0 f).trans (hI.kb _)))
  exact congrArg₂ (· * ·) (hid2 V c a hI t ht p x) ((at2_6 V c t x f).trans (hI.kw _ _))

theorem arr2_12 : (dat2 V c).arrAt 12 cfg2.N = fun y : S4096x256.Idx => a.k1 (y 0) (y 1) := by
  refine (dat2 V c).arrAt_eq_of_covers 12 _ (by decide +kernel) fun t hf (y : S512x256.Idx) => ?_
  have e : ∀ t : Fin cfg2.N, win2_12.index t = ![t.val / 4, 0] := by decide +kernel
  have hi : (((win2_12.blk t).view.emb y 0 : Fin _) : ℕ) = t.val / 4 * 512 + (y 0).val := by blk_simp [e t]
  have hj : (((win2_12.blk t).view.emb y 1 : Fin _) : ℕ) = (y 1).val := by blk_simp [e t]
  blk_simp
  rw [after2_12]
  refine Eq.trans ?_ (congrArg₂ a.k1 (Fin.ext hi.symm : (⟨t.val / 4 * 512 + (y 0).val, row2 t (y 0)⟩ : Fin 4096) = _) (Fin.ext hj.symm : (y 1 : Fin 256) = _))
  exact val2_12 V c a hI t ((flush2_12 t).mp hf) y

theorem val2_13 (t : Fin cfg2.N) (ht : t.val % 4 = 3) (y : S512x256.Idx) :
    k2_pay4 (k2_pay6 (iblk2 V c 2 t) (acc2 V c (t.val + 1)) (iblk2 V c 3 t) (iblk2 V c 4 t) (iblk2 V c 5 t)) (iblk2 V c 8 t) (iblk2 V c 9 t) y
      = a.v1 ⟨t.val / 4 * 512 + (y 0).val, row2 t (y 0)⟩ (y 1) := by
  obtain ⟨p, f, rfl⟩ : ∃ (p : Fin 512) (f : Fin 256), y = ix2 p f := ⟨_, _, eq_ix2 y⟩
  refine (pay2_4 _ _ _ p f).trans (congrArg₂ (· + ·) (Finset.sum_congr rfl fun x _ => ?_) ((at2_9 V c t 0 f).trans (hI.vb _)))
  exact congrArg₂ (· * ·) (hid2 V c a hI t ht p x) ((at2_8 V c t x f).trans (hI.vw _ _))

theorem arr2_13 : (dat2 V c).arrAt 13 cfg2.N = fun y : S4096x256.Idx => a.v1 (y 0) (y 1) := by
  refine (dat2 V c).arrAt_eq_of_covers 13 _ (by decide +kernel) fun t hf (y : S512x256.Idx) => ?_
  have e : ∀ t : Fin cfg2.N, win2_13.index t = ![t.val / 4, 0] := by decide +kernel
  have hi : (((win2_13.blk t).view.emb y 0 : Fin _) : ℕ) = t.val / 4 * 512 + (y 0).val := by blk_simp [e t]
  have hj : (((win2_13.blk t).view.emb y 1 : Fin _) : ℕ) = (y 1).val := by blk_simp [e t]
  blk_simp
  rw [after2_13]
  refine Eq.trans ?_ (congrArg₂ a.v1 (Fin.ext hi.symm : (⟨t.val / 4 * 512 + (y 0).val, row2 t (y 0)⟩ : Fin 4096) = _) (Fin.ext hj.symm : (y 1 : Fin 256) = _))
  exact val2_13 V c a hI t ((flush2_13 t).mp hf) y

theorem val2_14 (t : Fin cfg2.N) (ht : t.val % 4 = 3) (y : S512x256.Idx) :
    k2_pay5 (k2_pay6 (iblk2 V c 2 t) (acc2 V c (t.val + 1)) (iblk2 V c 3 t) (iblk2 V c 4 t) (iblk2 V c 5 t)) (iblk2 V c 10 t) (iblk2 V c 11 t) y
      = a.q2 ⟨t.val / 4 * 512 + (y 0).val, row2 t (y 0)⟩ (y 1) := by
  obtain ⟨p, f, rfl⟩ : ∃ (p : Fin 512) (f : Fin 256), y = ix2 p f := ⟨_, _, eq_ix2 y⟩
  refine (pay2_5 _ _ _ p f).trans (congrArg₂ (· + ·) (Finset.sum_congr rfl fun x _ => ?_) ((at2_11 V c t 0 f).trans (hI.qb _)))
  exact congrArg₂ (· * ·) (hid2 V c a hI t ht p x) ((at2_10 V c t x f).trans (hI.qw _ _))

theorem arr2_14 : (dat2 V c).arrAt 14 cfg2.N = fun y : S4096x256.Idx => a.q2 (y 0) (y 1) := by
  refine (dat2 V c).arrAt_eq_of_covers 14 _ (by decide +kernel) fun t hf (y : S512x256.Idx) => ?_
  have e : ∀ t : Fin cfg2.N, win2_14.index t = ![t.val / 4, 0] := by decide +kernel
  have hi : (((win2_14.blk t).view.emb y 0 : Fin _) : ℕ) = t.val / 4 * 512 + (y 0).val := by blk_simp [e t]
  have hj : (((win2_14.blk t).view.emb y 1 : Fin _) : ℕ) = (y 1).val := by blk_simp [e t]
  blk_simp
  rw [after2_14]
  refine Eq.trans ?_ (congrArg₂ a.q2 (Fin.ext hi.symm : (⟨t.val / 4 * 512 + (y 0).val, row2 t (y 0)⟩ : Fin 4096) = _) (Fin.ext hj.symm : (y 1 : Fin 256) = _))
  exact val2_14 V c a hI t ((flush2_14 t).mp hf) y

end Cert.KernelIdeal.Gen
end
-- ==== Proof.Value.Mask3.lean ====
module

public import proofs.«01_k».proof.Proof.Ideal.Region3
public import proofs.«01_k».proof.Proof.Math.Net
public import Idealize.ShloMosaic.Lib.Pointwise

@[expose] public section

set_option maxRecDepth 16384

noncomputable section

namespace Cert.KernelIdeal.Gen

open Idealize.ShloMosaic Idealize.ShloMosaic.TcCoe
open Cert.Math

/-! The mask of the first attention: ten rounds, each taking the greatest entry left over in every row. -/

/-- The column of every entry. -/
def cols3 : IVec S256x4096 32 := iota .tc S256x4096 32 [1] iota_S256x4096_d1_w32

/-- The entries left over, a taken one reading −1. -/
def left3 (P : FVec Ideal S256x4096 .f32) (s : IVec S256x4096 1) : FVec Ideal S256x4096 .f32 :=
  select s (broadcast S256x4096 (Scalar.ofBits .f32 0xBF800000#32)) P

/-- The greatest entry of every row. -/
def big3 (l : FVec Ideal S256x4096 .f32) : FVec Ideal S256 .f32 :=
  multiReduction .maximumf [1] S256 l 0xFF800000#32 reduces_S256x4096_S256 (.inl rfl) rfl

/-- The columns where a row's greatest entry stands; elsewhere a number past the last column. -/
def pick3 (l : FVec Ideal S256x4096 .f32) : IVec S256x4096 32 :=
  select (cmpf .oeq l (broadcastTo S256x4096 (shapeCast S256x1 (big3 l) shapeCasts_S256_S256x1) broadcasts_S256x1_S256x4096)) cols3 (broadcast S256x4096 4096#32)

/-- The lowest of these. -/
def low3 (l : FVec Ideal S256x4096 .f32) : IVec S256x1 32 :=
  shapeCast S256x1 (multiReductionI .minsi [1] S256 (pick3 l) 2147483647#32 reduces_S256x4096_S256 rfl) shapeCasts_S256_S256x1

/-- One round. -/
def turn3 (P : FVec Ideal S256x4096 .f32) (s : IVec S256x4096 1) : IVec S256x4096 1 :=
  ori s (cmpi .eq cols3 (broadcastTo S256x4096 (low3 (left3 P s)) broadcasts_S256x1_S256x4096))

theorem turn3_at (P : FVec Ideal S256x4096 .f32) (s : IVec S256x4096 1) (i : Fin 256) (j : Fin 4096) :
    turn3 P s (ix2 i j) = Cert.Math.round (fun x => P (ix2 i x)) (fun x => s (ix2 i x)) j := by
  pointwise [turn3, low3, pick3, big3, left3, cols3]
  unfold Cert.Math.round
  have e : ∀ x, Scalar.select (s (ix2 i x)) (Ideal.ofBits .f32 3212836864#32) (P (ix2 i x)) = left (fun x => P (ix2 i x)) (fun x => s (ix2 i x)) x := by
    intro x
    unfold left Scalar.select
    rw [lit_neg_one]
    rfl
  simp only [e, lit_bot]

theorem turns3_at (P : FVec Ideal S256x4096 .f32) (n : ℕ) (s : IVec S256x4096 1) (i : Fin 256) (j : Fin 4096) :
    (turn3 P)^[n] s (ix2 i j) = (Cert.Math.round (fun x => P (ix2 i x)))^[n] (fun x => s (ix2 i x)) j := by
  induction n generalizing j with
  | zero => rfl
  | succ n ih =>
    rw [Function.iterate_succ_apply', Function.iterate_succ_apply', turn3_at]
    exact congrFun (congrArg _ (funext fun x => ih x)) j

/-- The mask as numbers. -/
def mask3 (P : FVec Ideal S256x4096 .f32) : FVec Ideal S256x4096 .f32 :=
  sitofp .f32 (extui 32 ((turn3 P)^[10] (broadcast S256x4096 0#1)) natLt_1_32)

theorem mask3_at (P : FVec Ideal S256x4096 .f32) (i : Fin 256) (hP : ∀ x : Fin 4096, ∃ r : ℝ, 0 ≤ r ∧ P (ix2 i x) = (r : EReal)) (j : Fin 4096) :
    mask3 P (ix2 i j) = mask (fun x => P (ix2 i x)) (by norm_num) j := by
  have e := (turns3_at P 10 (broadcast S256x4096 0#1) i j).trans (rounds_mask hP (by norm_num) (by norm_num) j)
  pointwise [mask3]
  rw [e]
  unfold mask
  split
  · show ((((1#32 : BitVec 32).toInt : ℝ)) : EReal) = 1
    simp
  · show ((((0#32 : BitVec 32).toInt : ℝ)) : EReal) = 0
    simp

theorem pay3_4 (v0 v1 v3 v7) : k3_pay4 (F := Ideal) v0 v1 v3 v7 = turn3 (k3_pay3 v0 v1 v3 v7) (broadcast S256x4096 0#1) := rfl
theorem pay3_5 (v0 v1 v3 v7) : k3_pay5 (F := Ideal) v0 v1 v3 v7 = left3 (k3_pay3 v0 v1 v3 v7) (k3_pay4 v0 v1 v3 v7) := rfl
theorem pay3_6 (v0 v1 v3 v7) : k3_pay6 (F := Ideal) v0 v1 v3 v7 = big3 (k3_pay5 v0 v1 v3 v7) := rfl
theorem pay3_7 (P s) : k3_pay7 (F := Ideal) P cols3 s (left3 P s) (big3 (left3 P s)) = turn3 P (turn3 P (turn3 P s)) := rfl
theorem pay3_8 (P s l b) : k3_pay8 (F := Ideal) P cols3 s l b = low3 (left3 P (k3_pay7 P cols3 s l b)) := rfl
theorem pay3_9 (P s) : k3_pay9 (F := Ideal) P cols3 s (low3 (left3 P s)) = turn3 P (turn3 P (turn3 P (turn3 P s))) := rfl
theorem pay3_10 (P C s l) : k3_pay10 (F := Ideal) P C s l = left3 P (k3_pay9 P C s l) := rfl
theorem pay3_11 (P C s l) : k3_pay11 (F := Ideal) P C s l = shapeCast S256x1 (big3 (k3_pay10 P C s l)) shapeCasts_S256_S256x1 := rfl

/-- The hidden layer, from the mask as numbers. -/
def lay3 (v0 : FVec Ideal S256x256 .f32) (M : FVec Ideal S256x4096 .f32) (v : FVec Ideal S4096x256 .f32) (A B : FVec Ideal S256x512 .f32) (b : FVec Ideal S1x512 .f32) : FVec Ideal S256x512 .f32 :=
  addf (addf (matmul dot_S256x256_S256x512_S256x512_1_0_0_1_n_n (some .fp32) v0 (shapeCast S256x512 A shapeCasts_S256x512_S256x512) (constant S256x512 .f32 0x00000000#32))
      (matmul dot_S256x256_S256x512_S256x512_1_0_0_1_n_n (some .fp32)
        (matmul dot_S256x4096_S4096x256_S256x256_1_0_0_1_n_n (some .fp32) M (shapeCast S4096x256 v shapeCasts_S4096x256_S4096x256) (constant S256x256 .f32 0x00000000#32))
        (shapeCast S256x512 B shapeCasts_S256x512_S256x512) (constant S256x512 .f32 0x00000000#32)))
    (broadcastTo S256x512 (shapeCast S1x512 b shapeCasts_S1x512_S1x512) broadcasts_S1x512_S256x512)

theorem pay3_12 (v0 P s v A B b) :
    k3_pay12 (F := Ideal) v0 P cols3 s (left3 P s) (shapeCast S256x1 (big3 (left3 P s)) shapeCasts_S256_S256x1) v A B b
      = lay3 v0 (sitofp .f32 (extui 32 (turn3 P (turn3 P s)) natLt_1_32)) v A B b := rfl

theorem lay3_at (v0 M v A B b) (p : Fin 256) (f : Fin 512) :
    lay3 v0 M v A B b (ix2 p f) = (∑ x, v0 (ix2 p x) * A (ix2 x f)) + (∑ x, (∑ j, M (ix2 p j) * v (ix2 j x)) * B (ix2 x f)) + b (ix2 0 f) := by
  pointwise [lay3]

theorem hid3_eq (x0 x1 x2 x3 x4 x5 x6 x7) : hid3 (F := Ideal) x0 x1 x2 x3 x4 x5 x6 x7 = lay3 x0 (mask3 (k3_pay3 x0 x1 x2 x3)) x4 x5 x6 x7 := by
  have e0 : (col3 : IVec S256x4096 32) = cols3 := rfl
  have ea : pick3a x0 x1 x2 x3 = turn3 (k3_pay3 x0 x1 x2 x3) (turn3 (k3_pay3 x0 x1 x2 x3) (turn3 (k3_pay3 x0 x1 x2 x3) (turn3 (k3_pay3 x0 x1 x2 x3) (broadcast S256x4096 0#1)))) := by
    unfold pick3a
    rw [pay3_6, pay3_5, pay3_4, e0, pay3_7]
  have eb : pick3b x0 x1 x2 x3 = low3 (left3 (k3_pay3 x0 x1 x2 x3) (pick3a x0 x1 x2 x3)) := by
    unfold pick3b
    rw [e0, pay3_8]
    rfl
  unfold hid3
  rw [pay3_11, pay3_10, eb, ea, e0, pay3_9, pay3_12]
  rfl

/-- The softmax of the first attention. -/
theorem pay3_3 (v0 v1 v3 v7) (p : Fin 256) (j : Fin 4096) :
    k3_pay3 (F := Ideal) v0 v1 v3 v7 (ix2 p j) = att (fun f => (∑ x, v0 (ix2 p x) * v1 (ix2 x f)) + v3 (ix2 0 f)) (fun j f => v7 (ix2 j f)) j := by
  pointwise [k3_pay3]
  unfold att soft logits top
  simp only [lit_bot]

theorem pay3_1 (h : FVec Ideal S256x512 .f32) (W2 b2 W3 b3) (p : Fin 256) (f : Fin 256) :
    k3_pay1 h (cmpf .oge h (broadcast S256x512 (Scalar.ofBits .f32 0x00000000#32))) k3_pay14 W2 b2 W3 b3 (ix2 p f)
      = (∑ x, leaky ((∑ y, leaky (h (ix2 p y)) * W2 (ix2 y x)) + b2 (ix2 0 x)) * W3 (ix2 x f)) + b3 (ix2 0 f) := by
  pointwise [k3_pay1, k3_pay14]
  rfl

theorem pos3_eq (x0 x1 x2 x3 x4 x5 x6 x7) : pos3 (F := Ideal) x0 x1 x2 x3 x4 x5 x6 x7
    = cmpf .oge (hid3 x0 x1 x2 x3 x4 x5 x6 x7) (broadcast S256x512 (Scalar.ofBits .f32 0x00000000#32)) := rfl

theorem pay3_2 (h q c W2 b2 W3 b3 kw kb) (p : Fin 256) (f : Fin 256) :
    k3_pay2 (F := Ideal) h q c W2 b2 W3 b3 kw kb (ix2 p f) = (∑ x, k3_pay1 h q c W2 b2 W3 b3 (ix2 p x) * kw (ix2 x f)) + kb (ix2 0 f) := by
  pointwise [k3_pay2]

end Cert.KernelIdeal.Gen
end
-- ==== Proof.Value.R3.lean ====
module

public import proofs.«01_k».proof.Proof.Ideal.Region3
public import proofs.«01_k».proof.Proof.Value.Mask3
public import proofs.«01_k».proof.Proof.Value.R0
public import proofs.«01_k».proof.Proof.Math.Blocks
public import Idealize.ShloMosaic.Lib.Pipeline.ValueKit.Geometry
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe
open Cert.Math

/-! The region of the hyperedges: its output arrays at an index. -/

variable (V : (c : Dev nD) → (b : Ref sig .tc) → Buf (Elt Ideal) ((c : Thread nD τ).loc b)) (c : Dev nD)

theorem agg_of (a : Args) (i : Fin 1024) (x : Fin 256) (M v : Fin 4096 → EReal)
    (hM : M = mask (a.p1 i) (by decide)) (hv : v = fun j => a.v1 j x) : ∑ j, M j * v j = a.agg i x := by
  subst hM hv
  rfl

theorem row3 (t : Fin cfg3.N) (p : Fin 256) : t.val * 256 + p.val < 1024 := by
  have h : t.val < 4 := t.isLt
  omega

theorem at3_0 (t : Fin cfg3.N) (p : Fin 256) (q : Fin 256) (h : t.val * 256 + p.val < 1024) :
    (iblk3 V c 0 t : Vec Ideal S256x256 .f32) (ix2 p q) = (V c main_arg10 : S1024x256.Idx → EReal) (ix2 ⟨t.val * 256 + p.val, h⟩ q) := by
  have e : ∀ t : Fin cfg3.N, win3_0.index t = ![t.val, 0] := by decide +kernel
  blk_ext [iblk3, e t]

theorem at3_1 (t : Fin cfg3.N) (p : Fin 256) (q : Fin 256) :
    (iblk3 V c 1 t : Vec Ideal S256x256 .f32) (ix2 p q) = (V c main_arg11 : S256x256.Idx → EReal) (ix2 p q) := by
  have e : ∀ t : Fin cfg3.N, win3_1.index t = ![0, 0] := by decide +kernel
  blk_ext [iblk3, e t]

theorem at3_2 (t : Fin cfg3.N) (p : Fin 1) (q : Fin 256) :
    (iblk3 V c 2 t : Vec Ideal S1x256 .f32) (ix2 p q) = (V c main_v14 : S1x256.Idx → EReal) (ix2 p q) := by
  have e : ∀ t : Fin cfg3.N, win3_2.index t = ![0, 0] := by decide +kernel
  blk_ext [iblk3, e t]

theorem at3_3 (t : Fin cfg3.N) (p : Fin 4096) (q : Fin 256) :
    (iblk3 V c 3 t : Vec Ideal S4096x256 .f32) (ix2 p q) = (V c main_v11_0 : S4096x256.Idx → EReal) (ix2 p q) := by
  have e : ∀ t : Fin cfg3.N, win3_3.index t = ![0, 0] := by decide +kernel
  blk_ext [iblk3, e t]

theorem at3_4 (t : Fin cfg3.N) (p : Fin 4096) (q : Fin 256) :
    (iblk3 V c 4 t : Vec Ideal S4096x256 .f32) (ix2 p q) = (V c main_v11_1 : S4096x256.Idx → EReal) (ix2 p q) := by
  have e : ∀ t : Fin cfg3.N, win3_4.index t = ![0, 0] := by decide +kernel
  blk_ext [iblk3, e t]

theorem at3_5 (t : Fin cfg3.N) (p : Fin 256) (q : Fin 512) :
    (iblk3 V c 5 t : Vec Ideal S256x512 .f32) (ix2 p q) = (V c main_v12 : S256x512.Idx → EReal) (ix2 p q) := by
  have e : ∀ t : Fin cfg3.N, win3_5.index t = ![0, 0] := by decide +kernel
  blk_ext [iblk3, e t]

theorem at3_6 (t : Fin cfg3.N) (p : Fin 256) (q : Fin 512) :
    (iblk3 V c 6 t : Vec Ideal S256x512 .f32) (ix2 p q) = (V c main_v13 : S256x512.Idx → EReal) (ix2 p q) := by
  have e : ∀ t : Fin cfg3.N, win3_6.index t = ![0, 0] := by decide +kernel
  blk_ext [iblk3, e t]

theorem at3_7 (t : Fin cfg3.N) (p : Fin 1) (q : Fin 512) :
    (iblk3 V c 7 t : Vec Ideal S1x512 .f32) (ix2 p q) = (V c main_v15 : S1x512.Idx → EReal) (ix2 p q) := by
  have e : ∀ t : Fin cfg3.N, win3_7.index t = ![0, 0] := by decide +kernel
  blk_ext [iblk3, e t]

theorem at3_8 (t : Fin cfg3.N) (p : Fin 512) (q : Fin 256) :
    (iblk3 V c 8 t : Vec Ideal S512x256 .f32) (ix2 p q) = (V c main_arg19 : S512x256.Idx → EReal) (ix2 p q) := by
  have e : ∀ t : Fin cfg3.N, win3_8.index t = ![0, 0] := by decide +kernel
  blk_ext [iblk3, e t]

theorem at3_9 (t : Fin cfg3.N) (p : Fin 1) (q : Fin 256) :
    (iblk3 V c 9 t : Vec Ideal S1x256 .f32) (ix2 p q) = (V c main_v16 : S1x256.Idx → EReal) (ix2 p q) := by
  have e : ∀ t : Fin cfg3.N, win3_9.index t = ![0, 0] := by decide +kernel
  blk_ext [iblk3, e t]

theorem at3_10 (t : Fin cfg3.N) (p : Fin 256) (q : Fin 256) :
    (iblk3 V c 10 t : Vec Ideal S256x256 .f32) (ix2 p q) = (V c main_arg21 : S256x256.Idx → EReal) (ix2 p q) := by
  have e : ∀ t : Fin cfg3.N, win3_10.index t = ![0, 0] := by decide +kernel
  blk_ext [iblk3, e t]

theorem at3_11 (t : Fin cfg3.N) (p : Fin 1) (q : Fin 256) :
    (iblk3 V c 11 t : Vec Ideal S1x256 .f32) (ix2 p q) = (V c main_v17 : S1x256.Idx → EReal) (ix2 p q) := by
  have e : ∀ t : Fin cfg3.N, win3_11.index t = ![0, 0] := by decide +kernel
  blk_ext [iblk3, e t]

theorem at3_12 (t : Fin cfg3.N) (p : Fin 256) (q : Fin 256) :
    (iblk3 V c 12 t : Vec Ideal S256x256 .f32) (ix2 p q) = (V c main_arg13 : S256x256.Idx → EReal) (ix2 p q) := by
  have e : ∀ t : Fin cfg3.N, win3_12.index t = ![0, 0] := by decide +kernel
  blk_ext [iblk3, e t]

theorem at3_13 (t : Fin cfg3.N) (p : Fin 1) (q : Fin 256) :
    (iblk3 V c 13 t : Vec Ideal S1x256 .f32) (ix2 p q) = (V c main_v18 : S1x256.Idx → EReal) (ix2 p q) := by
  have e : ∀ t : Fin cfg3.N, win3_13.index t = ![0, 0] := by decide +kernel
  blk_ext [iblk3, e t]

/-- What the region finds in the arrays it reads. -/
structure In3 (a : Args) : Prop where
  mu : ∀ i j, (V c main_arg10 : S1024x256.Idx → EReal) (ix2 i j) = a.mu i j
  qw : ∀ (i : Fin 256) j, (V c main_arg11 : S256x256.Idx → EReal) (ix2 i j) = a.qw i j
  qb : ∀ j, (V c main_v14 : S1x256.Idx → EReal) (ix2 0 j) = a.qb j
  k : ∀ (i : Fin 4096) j, (V c main_v11_0 : S4096x256.Idx → EReal) (ix2 i j) = a.k1 i j
  v : ∀ (i : Fin 4096) j, (V c main_v11_1 : S4096x256.Idx → EReal) (ix2 i j) = a.v1 i j
  ma : ∀ (i : Fin 256) j, (V c main_v12 : S256x512.Idx → EReal) (ix2 i j) = a.m1w (i.castAdd 256) j
  mb : ∀ (i : Fin 256) j, (V c main_v13 : S256x512.Idx → EReal) (ix2 i j) = a.m1w (i.natAdd 256) j
  m1b : ∀ j, (V c main_v15 : S1x512.Idx → EReal) (ix2 0 j) = a.m1b j
  m2w : ∀ (i : Fin 512) j, (V c main_arg19 : S512x256.Idx → EReal) (ix2 i j) = a.m2w i j
  m2b : ∀ j, (V c main_v16 : S1x256.Idx → EReal) (ix2 0 j) = a.m2b j
  m3w : ∀ (i : Fin 256) j, (V c main_arg21 : S256x256.Idx → EReal) (ix2 i j) = a.m3w i j
  m3b : ∀ j, (V c main_v17 : S1x256.Idx → EReal) (ix2 0 j) = a.m3b j
  kw : ∀ (i : Fin 256) j, (V c main_arg13 : S256x256.Idx → EReal) (ix2 i j) = a.kw i j
  kb : ∀ j, (V c main_v18 : S1x256.Idx → EReal) (ix2 0 j) = a.kb j

variable (a : Args) (hI : In3 V c a) (hR : a.Real)
include hI

theorem soft3 (t : Fin cfg3.N) (p : Fin 256) (j : Fin 4096) :
    k3_pay3 (iblk3 V c 0 t) (iblk3 V c 1 t) (iblk3 V c 2 t) (iblk3 V c 3 t) (ix2 p j) = a.p1 ⟨t.val * 256 + p.val, row3 t p⟩ j := by
  refine (pay3_3 _ _ _ _ p j).trans ?_
  have hq : (fun f : Fin 256 => _) = a.q1 ⟨t.val * 256 + p.val, row3 t p⟩ := funext fun f =>
    congrArg₂ (· + ·) (Finset.sum_congr rfl fun x _ => congrArg₂ (· * ·) ((at3_0 V c t p x (row3 t p)).trans (hI.mu _ _)) ((at3_1 V c t x f).trans (hI.qw _ _)))
      ((at3_2 V c t 0 f).trans (hI.qb _))
  have hk : (fun (j : Fin 4096) (f : Fin 256) => _) = a.k1 := funext fun j => funext fun f => (at3_3 V c t j f).trans (hI.k _ _)
  exact congrFun (congr (congrArg att hq) hk) j

include hR in
theorem took3 (t : Fin cfg3.N) (p : Fin 256) (j : Fin 4096) :
    mask3 (k3_pay3 (iblk3 V c 0 t) (iblk3 V c 1 t) (iblk3 V c 2 t) (iblk3 V c 3 t)) (ix2 p j)
      = mask (a.p1 ⟨t.val * 256 + p.val, row3 t p⟩) (by decide) j := by
  have hs := fun j => soft3 V c a hI t p j
  refine (mask3_at _ p (fun x => ?_) j).trans ?_
  · rw [hs]
    exact hR.p1 _ _
  · exact congrFun (congrArg (fun z => mask z _) (funext hs)) j

include hR in
theorem hid3_at (t : Fin cfg3.N) (p : Fin 256) (f : Fin 512) :
    leaky (hid3 (iblk3 V c 0 t) (iblk3 V c 1 t) (iblk3 V c 2 t) (iblk3 V c 3 t) (iblk3 V c 4 t) (iblk3 V c 5 t) (iblk3 V c 6 t) (iblk3 V c 7 t) (ix2 p f))
      = a.h2 ⟨t.val * 256 + p.val, row3 t p⟩ f := by
  refine congrArg leaky ?_
  rw [hid3_eq]
  refine (lay3_at _ _ _ _ _ _ p f).trans ?_
  refine congrArg₂ (· + ·) (congrArg₂ (· + ·) (Finset.sum_congr rfl fun x _ => ?_) (Finset.sum_congr rfl fun x _ => ?_)) ((at3_7 V c t 0 f).trans (hI.m1b _))
  · exact congrArg₂ (· * ·) ((at3_0 V c t p x (row3 t p)).trans (hI.mu _ _)) ((at3_5 V c t x f).trans (hI.ma _ _))
  · exact congrArg₂ (· * ·) (agg_of a _ x _ _ (funext fun j => took3 V c a hI hR t p j) (funext fun j => (at3_4 V c t j x).trans (hI.v _ _))) ((at3_6 V c t x f).trans (hI.mb _ _))

/-- The block of features a point writes. -/
def feat3 (t : Fin cfg3.N) : FVec Ideal S256x256 .f32 :=
  k3_pay1 (hid3 (iblk3 V c 0 t) (iblk3 V c 1 t) (iblk3 V c 2 t) (iblk3 V c 3 t) (iblk3 V c 4 t) (iblk3 V c 5 t) (iblk3 V c 6 t) (iblk3 V c 7 t))
    (pos3 (iblk3 V c 0 t) (iblk3 V c 1 t) (iblk3 V c 2 t) (iblk3 V c 3 t) (iblk3 V c 4 t) (iblk3 V c 5 t) (iblk3 V c 6 t) (iblk3 V c 7 t))
    k3_pay14 (iblk3 V c 8 t) (iblk3 V c 9 t) (iblk3 V c 10 t) (iblk3 V c 11 t)

include hR in
theorem feat3_at (t : Fin cfg3.N) (p f : Fin 256) : feat3 V c t (ix2 p f) = a.xe ⟨t.val * 256 + p.val, row3 t p⟩ f := by
  unfold feat3
  rw [pos3_eq]
  refine (pay3_1 _ _ _ _ _ p f).trans ?_
  refine congrArg₂ (· + ·) (Finset.sum_congr rfl fun x _ => congrArg₂ (· * ·) (congrArg leaky ?_) ((at3_10 V c t x f).trans (hI.m3w _ _))) ((at3_11 V c t 0 f).trans (hI.m3b _))
  refine congrArg₂ (· + ·) (Finset.sum_congr rfl fun y _ => congrArg₂ (· * ·) ?_ ((at3_8 V c t y x).trans (hI.m2w _ _))) ((at3_9 V c t 0 x).trans (hI.m2b _))
  exact hid3_at V c a hI hR t p y

include hR in
theorem val3_14 (t : Fin cfg3.N) (y : S256x256.Idx) : feat3 V c t y = a.xe ⟨t.val * 256 + (y 0).val, row3 t (y 0)⟩ (y 1) := by
  obtain ⟨p, f, rfl⟩ : ∃ (p : Fin 256) (f : Fin 256), y = ix2 p f := ⟨_, _, eq_ix2 y⟩
  exact feat3_at V c a hI hR t p f

include hR in
theorem val3_15 (t : Fin cfg3.N) (y : S256x256.Idx) :
    k3_pay2 (hid3 (iblk3 V c 0 t) (iblk3 V c 1 t) (iblk3 V c 2 t) (iblk3 V c 3 t) (iblk3 V c 4 t) (iblk3 V c 5 t) (iblk3 V c 6 t) (iblk3 V c 7 t))
      (pos3 (iblk3 V c 0 t) (iblk3 V c 1 t) (iblk3 V c 2 t) (iblk3 V c 3 t) (iblk3 V c 4 t) (iblk3 V c 5 t) (iblk3 V c 6 t) (iblk3 V c 7 t))
      k3_pay14 (iblk3 V c 8 t) (iblk3 V c 9 t) (iblk3 V c 10 t) (iblk3 V c 11 t) (iblk3 V c 12 t) (iblk3 V c 13 t) y
      = a.k2 ⟨t.val * 256 + (y 0).val, row3 t (y 0)⟩ (y 1) := by
  obtain ⟨p, f, rfl⟩ : ∃ (p : Fin 256) (f : Fin 256), y = ix2 p f := ⟨_, _, eq_ix2 y⟩
  refine (pay3_2 _ _ _ _ _ _ _ _ _ p f).trans ?_
  refine congrArg₂ (· + ·) (Finset.sum_congr rfl fun x _ => congrArg₂ (· * ·) ?_ ((at3_12 V c t x f).trans (hI.kw _ _))) ((at3_13 V c t 0 f).trans (hI.kb _))
  exact feat3_at V c a hI hR t p x

include hR in
theorem arr3_14 : (dat3 V c).arrAt 14 cfg3.N = fun y : S1024x256.Idx => a.xe (y 0) (y 1) := by
  refine (dat3 V c).arrAt_eq_of_covers 14 _ (by decide +kernel) fun t hf (y : S256x256.Idx) => ?_
  have e : ∀ t : Fin cfg3.N, win3_14.index t = ![t.val, 0] := by decide +kernel
  have hi : (((win3_14.blk t).view.emb y 0 : Fin _) : ℕ) = t.val * 256 + (y 0).val := by blk_simp [e t]
  have hj : (((win3_14.blk t).view.emb y 1 : Fin _) : ℕ) = (y 1).val := by blk_simp [e t]
  blk_simp
  rw [after3_14]; unfold out3_14
  rw [View.canon_unit_zero zero2]
  repeat rw [View.ld_unit_zero zero2]
  refine Eq.trans ?_ (congrArg₂ a.xe (Fin.ext hi.symm : (⟨t.val * 256 + (y 0).val, row3 t (y 0)⟩ : Fin 1024) = _) (Fin.ext hj.symm : (y 1 : Fin 256) = _))
  exact val3_14 V c a hI hR t y

include hR in
theorem arr3_15 : (dat3 V c).arrAt 15 cfg3.N = fun y : S1024x256.Idx => a.k2 (y 0) (y 1) := by
  refine (dat3 V c).arrAt_eq_of_covers 15 _ (by decide +kernel) fun t hf (y : S256x256.Idx) => ?_
  have e : ∀ t : Fin cfg3.N, win3_15.index t = ![t.val, 0] := by decide +kernel
  have hi : (((win3_15.blk t).view.emb y 0 : Fin _) : ℕ) = t.val * 256 + (y 0).val := by blk_simp [e t]
  have hj : (((win3_15.blk t).view.emb y 1 : Fin _) : ℕ) = (y 1).val := by blk_simp [e t]
  blk_simp
  rw [after3_15]; unfold out3_15
  rw [View.canon_unit_zero zero2]
  repeat rw [View.ld_unit_zero zero2]
  refine Eq.trans ?_ (congrArg₂ a.k2 (Fin.ext hi.symm : (⟨t.val * 256 + (y 0).val, row3 t (y 0)⟩ : Fin 1024) = _) (Fin.ext hj.symm : (y 1 : Fin 256) = _))
  exact val3_15 V c a hI hR t y

end Cert.KernelIdeal.Gen
end
-- ==== Proof.Value.Mask4.lean ====
module

public import proofs.«01_k».proof.Proof.Ideal.Region4
public import proofs.«01_k».proof.Proof.Math.Net
public import Idealize.ShloMosaic.Lib.Pointwise

@[expose] public section

set_option maxRecDepth 16384

noncomputable section

namespace Cert.KernelIdeal.Gen

open Idealize.ShloMosaic Idealize.ShloMosaic.TcCoe
open Cert.Math

/-! The mask of the second attention: ten rounds, each taking the greatest entry left over in every row. -/

/-- The column of every entry. -/
def cols4 : IVec S512x1024 32 := iota .tc S512x1024 32 [1] iota_S512x1024_d1_w32

/-- The entries left over, a taken one reading −1. -/
def left4 (P : FVec Ideal S512x1024 .f32) (s : IVec S512x1024 1) : FVec Ideal S512x1024 .f32 :=
  select s (broadcast S512x1024 (Scalar.ofBits .f32 0xBF800000#32)) P

/-- The greatest entry of every row. -/
def big4 (l : FVec Ideal S512x1024 .f32) : FVec Ideal S512 .f32 :=
  multiReduction .maximumf [1] S512 l 0xFF800000#32 reduces_S512x1024_S512 (.inl rfl) rfl

/-- The columns where a row's greatest entry stands; elsewhere a number past the last column. -/
def pick4 (l : FVec Ideal S512x1024 .f32) : IVec S512x1024 32 :=
  select (cmpf .oeq l (broadcastTo S512x1024 (shapeCast S512x1 (big4 l) shapeCasts_S512_S512x1) broadcasts_S512x1_S512x1024)) cols4 (broadcast S512x1024 1024#32)

/-- The lowest of these. -/
def low4 (l : FVec Ideal S512x1024 .f32) : IVec S512x1 32 :=
  shapeCast S512x1 (multiReductionI .minsi [1] S512 (pick4 l) 2147483647#32 reduces_S512x1024_S512 rfl) shapeCasts_S512_S512x1

/-- One round. -/
def turn4 (P : FVec Ideal S512x1024 .f32) (s : IVec S512x1024 1) : IVec S512x1024 1 :=
  ori s (cmpi .eq cols4 (broadcastTo S512x1024 (low4 (left4 P s)) broadcasts_S512x1_S512x1024))

theorem turn4_at (P : FVec Ideal S512x1024 .f32) (s : IVec S512x1024 1) (i : Fin 512) (j : Fin 1024) :
    turn4 P s (ix2 i j) = Cert.Math.round (fun x => P (ix2 i x)) (fun x => s (ix2 i x)) j := by
  pointwise [turn4, low4, pick4, big4, left4, cols4]
  unfold Cert.Math.round
  have e : ∀ x, Scalar.select (s (ix2 i x)) (Ideal.ofBits .f32 3212836864#32) (P (ix2 i x)) = left (fun x => P (ix2 i x)) (fun x => s (ix2 i x)) x := by
    intro x
    unfold left Scalar.select
    rw [lit_neg_one]
    rfl
  simp only [e, lit_bot]

theorem turns4_at (P : FVec Ideal S512x1024 .f32) (n : ℕ) (s : IVec S512x1024 1) (i : Fin 512) (j : Fin 1024) :
    (turn4 P)^[n] s (ix2 i j) = (Cert.Math.round (fun x => P (ix2 i x)))^[n] (fun x => s (ix2 i x)) j := by
  induction n generalizing j with
  | zero => rfl
  | succ n ih =>
    rw [Function.iterate_succ_apply', Function.iterate_succ_apply', turn4_at]
    exact congrFun (congrArg _ (funext fun x => ih x)) j

/-- The mask as numbers. -/
def mask4 (P : FVec Ideal S512x1024 .f32) : FVec Ideal S512x1024 .f32 :=
  sitofp .f32 (extui 32 ((turn4 P)^[10] (broadcast S512x1024 0#1)) natLt_1_32)

theorem mask4_at (P : FVec Ideal S512x1024 .f32) (i : Fin 512) (hP : ∀ x : Fin 1024, ∃ r : ℝ, 0 ≤ r ∧ P (ix2 i x) = (r : EReal)) (j : Fin 1024) :
    mask4 P (ix2 i j) = mask (fun x => P (ix2 i x)) (by norm_num) j := by
  have e := (turns4_at P 10 (broadcast S512x1024 0#1) i j).trans (rounds_mask hP (by norm_num) (by norm_num) j)
  pointwise [mask4]
  rw [e]
  unfold mask
  split
  · show ((((1#32 : BitVec 32).toInt : ℝ)) : EReal) = 1
    simp
  · show ((((0#32 : BitVec 32).toInt : ℝ)) : EReal) = 0
    simp

theorem pay4_3 (v0 v2) : k4_pay3 (F := Ideal) v0 v2 = turn4 (k4_pay2 v0 v2) (broadcast S512x1024 0#1) := rfl
theorem pay4_4 (v0 v2) : k4_pay4 (F := Ideal) v0 v2 = pick4 (left4 (k4_pay2 v0 v2) (k4_pay3 v0 v2)) := rfl
theorem pay4_5 (P s) : k4_pay5 (F := Ideal) P cols4 s (pick4 (left4 P s)) = turn4 P (turn4 P (turn4 P (turn4 P s))) := rfl
theorem pay4_6 (P C s l) : k4_pay6 (F := Ideal) P C s l = left4 P (k4_pay5 P C s l) := rfl
theorem pay4_7 (P s) : k4_pay7 (F := Ideal) P cols4 s (left4 P s) = turn4 P (turn4 P (turn4 P s)) := rfl
theorem pay4_8 (P s l) : k4_pay8 (F := Ideal) P cols4 s l = pick4 (left4 P (k4_pay7 P cols4 s l)) := rfl
theorem pay4_1 (P s) : k4_pay1 (F := Ideal) P cols4 s (pick4 (left4 P s)) = sitofp .f32 (extui 32 (turn4 P (turn4 P s)) natLt_1_32) := rfl

/-- The softmax of the second attention. -/
theorem pay4_2 (v0 v2) (p : Fin 512) (j : Fin 1024) :
    k4_pay2 (F := Ideal) v0 v2 (ix2 p j) = att (fun f => v0 (ix2 p f)) (fun j f => v2 (ix2 j f)) j := by
  pointwise [k4_pay2]
  unfold att soft logits top
  simp only [lit_bot]

theorem sel4_eq (x0 x1) :
    k4_pay1 (F := Ideal) (k4_pay10 x0 x1) (k4_pay9 x0 x1) (k4_pay7 (k4_pay10 x0 x1) (k4_pay9 x0 x1) (k4_pay13 x0 x1) (k4_pay14 x0 x1)) (k4_pay8 (k4_pay10 x0 x1) (k4_pay9 x0 x1) (k4_pay13 x0 x1) (k4_pay14 x0 x1))
      = mask4 (k4_pay2 (View.ld x0 r4_0) (View.ld x1 r4_1)) := by
  unfold k4_pay13 k4_pay14 k4_pay10 k4_pay9 k4_pay11 k4_pay12
  rfl

end Cert.KernelIdeal.Gen
end
-- ==== Proof.Value.R4.lean ====
module

public import proofs.«01_k».proof.Proof.Ideal.Region4
public import proofs.«01_k».proof.Proof.Value.Mask4
public import proofs.«01_k».proof.Proof.Value.R0
public import proofs.«01_k».proof.Proof.Math.Blocks
public import Idealize.ShloMosaic.Lib.Pipeline.ValueKit.Geometry
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe
open Cert.Math

/-! The region of the nodes' choice: its output arrays at an index. -/

variable (V : (c : Dev nD) → (b : Ref sig .tc) → Buf (Elt Ideal) ((c : Thread nD τ).loc b)) (c : Dev nD)

theorem row4 (t : Fin cfg4.N) (p : Fin 512) : t.val * 512 + p.val < 4096 := by
  have h : t.val < 8 := t.isLt
  omega

theorem at4_0 (t : Fin cfg4.N) (p : Fin 512) (q : Fin 256) (h : t.val * 512 + p.val < 4096) :
    (iblk4 V c 0 t : Vec Ideal S512x256 .f32) (ix2 p q) = (V c main_v11_2 : S4096x256.Idx → EReal) (ix2 ⟨t.val * 512 + p.val, h⟩ q) := by
  have e : ∀ t : Fin cfg4.N, win4_0.index t = ![t.val, 0] := by decide +kernel
  blk_ext [iblk4, e t]

theorem at4_1 (t : Fin cfg4.N) (p : Fin 1024) (q : Fin 256) :
    (iblk4 V c 1 t : Vec Ideal S1024x256 .f32) (ix2 p q) = (V c main_v19_1 : S1024x256.Idx → EReal) (ix2 p q) := by
  have e : ∀ t : Fin cfg4.N, win4_1.index t = ![0, 0] := by decide +kernel
  blk_ext [iblk4, e t]

/-- What the region finds in the arrays it reads. -/
structure In4 (a : Args) : Prop where
  q : ∀ i j, (V c main_v11_2 : S4096x256.Idx → EReal) (ix2 i j) = a.q2 i j
  k : ∀ (i : Fin 1024) j, (V c main_v19_1 : S1024x256.Idx → EReal) (ix2 i j) = a.k2 i j

variable (a : Args) (hI : In4 V c a) (hR : a.Real)
include hI

theorem soft4 (t : Fin cfg4.N) (p : Fin 512) (j : Fin 1024) :
    k4_pay2 (iblk4 V c 0 t) (iblk4 V c 1 t) (ix2 p j) = a.p2 ⟨t.val * 512 + p.val, row4 t p⟩ j := by
  refine (pay4_2 _ _ p j).trans ?_
  have hq : (fun f : Fin 256 => _) = a.q2 ⟨t.val * 512 + p.val, row4 t p⟩ := funext fun f => (at4_0 V c t p f (row4 t p)).trans (hI.q _ _)
  have hk : (fun (j : Fin 1024) (f : Fin 256) => _) = a.k2 := funext fun j => funext fun f => (at4_1 V c t j f).trans (hI.k _ _)
  exact congrFun (congr (congrArg att hq) hk) j

include hR in
theorem val4_2 (t : Fin cfg4.N) (y : S512x1024.Idx) :
    k4_pay2 (iblk4 V c 0 t) (iblk4 V c 1 t) y = a.p2 ⟨t.val * 512 + (y 0).val, row4 t (y 0)⟩ (y 1) := by
  obtain ⟨p, j, rfl⟩ : ∃ (p : Fin 512) (j : Fin 1024), y = ix2 p j := ⟨_, _, eq_ix2 y⟩
  exact soft4 V c a hI t p j

include hR in
theorem val4_3 (t : Fin cfg4.N) (y : S512x1024.Idx) :
    mask4 (k4_pay2 (iblk4 V c 0 t) (iblk4 V c 1 t)) y = a.hard ⟨t.val * 512 + (y 0).val, row4 t (y 0)⟩ (y 1) := by
  obtain ⟨p, j, rfl⟩ : ∃ (p : Fin 512) (j : Fin 1024), y = ix2 p j := ⟨_, _, eq_ix2 y⟩
  have hs := fun j => soft4 V c a hI t p j
  refine (mask4_at _ p (fun x => ?_) j).trans ?_
  · rw [hs]
    exact hR.p2 _ _
  · exact congrFun (congrArg (fun z => mask z _) (funext hs)) j

include hR in
theorem arr4_2 : (dat4 V c).arrAt 2 cfg4.N = fun y : S4096x1024.Idx => a.p2 (y 0) (y 1) := by
  refine (dat4 V c).arrAt_eq_of_covers 2 _ (by decide +kernel) fun t hf (y : S512x1024.Idx) => ?_
  have e : ∀ t : Fin cfg4.N, win4_2.index t = ![t.val, 0] := by decide +kernel
  have hi : (((win4_2.blk t).view.emb y 0 : Fin _) : ℕ) = t.val * 512 + (y 0).val := by blk_simp [e t]
  have hj : (((win4_2.blk t).view.emb y 1 : Fin _) : ℕ) = (y 1).val := by blk_simp [e t]
  blk_simp
  rw [after4_2]; unfold out4_2
  rw [View.canon_unit_zero zero2]
  repeat rw [View.ld_unit_zero zero2]
  refine Eq.trans ?_ (congrArg₂ a.p2 (Fin.ext hi.symm : (⟨t.val * 512 + (y 0).val, row4 t (y 0)⟩ : Fin 4096) = _) (Fin.ext hj.symm : (y 1 : Fin 1024) = _))
  exact val4_2 V c a hI hR t y

include hR in
theorem arr4_3 : (dat4 V c).arrAt 3 cfg4.N = fun y : S4096x1024.Idx => a.hard (y 0) (y 1) := by
  refine (dat4 V c).arrAt_eq_of_covers 3 _ (by decide +kernel) fun t hf (y : S512x1024.Idx) => ?_
  have e : ∀ t : Fin cfg4.N, win4_3.index t = ![t.val, 0] := by decide +kernel
  have hi : (((win4_3.blk t).view.emb y 0 : Fin _) : ℕ) = t.val * 512 + (y 0).val := by blk_simp [e t]
  have hj : (((win4_3.blk t).view.emb y 1 : Fin _) : ℕ) = (y 1).val := by blk_simp [e t]
  blk_simp
  rw [after4_3]; unfold out4_3
  rw [sel4_eq]
  rw [View.canon_unit_zero zero2]
  repeat rw [View.ld_unit_zero zero2]
  refine Eq.trans ?_ (congrArg₂ a.hard (Fin.ext hi.symm : (⟨t.val * 512 + (y 0).val, row4 t (y 0)⟩ : Fin 4096) = _) (Fin.ext hj.symm : (y 1 : Fin 1024) = _))
  exact val4_3 V c a hI hR t y

end Cert.KernelIdeal.Gen
end
-- ==== Proof.Value.Chain.lean ====
module

public import proofs.«01_k».proof.Proof.Ideal.Run
public import proofs.«01_k».proof.Proof.Value.R0
public import proofs.«01_k».proof.Proof.Value.R1
public import proofs.«01_k».proof.Proof.Value.R2
public import proofs.«01_k».proof.Proof.Value.R3
public import proofs.«01_k».proof.Proof.Value.R4
public import Idealize.ShloMosaic.Lib.Pointwise
public import Idealize.ShloMosaic.Lib.StableHlo.Run

@[expose] public section

set_option maxRecDepth 16384

noncomputable section

namespace Cert.KernelIdeal.Run

open Cert.KernelIdeal.Gen
open Idealize.ShloMosaic Idealize.ShloMosaic.TcCoe
open Cert.Math

/-! The regions' outputs in the order of the run, as the layers of the arguments. -/

/-! ### What the host operations leave -/

theorem row256 (x : FVec Ideal S256 .f32) (j : Fin 256) : shapeCast S1x256 x shapeCasts_S256_S1x256 (ix2 0 j) = x (ix1 j) := by
  pointwise []
theorem row512 (x : FVec Ideal S512 .f32) (j : Fin 512) : shapeCast S1x512 x shapeCasts_S512_S1x512 (ix2 0 j) = x (ix1 j) := by
  pointwise []
theorem upper (x : FVec Ideal S512x512 .f32) (i : Fin 256) (j : Fin 512) :
    extractStridedSlice S256x512 ![0, 0] x slices_S512x512_S256x512_0_0 (ix2 i j) = x (ix2 (i.castAdd 256) j) := by
  pointwise []
  rfl
theorem lower (x : FVec Ideal S512x512 .f32) (i : Fin 256) (j : Fin 512) :
    extractStridedSlice S256x512 ![256, 0] x slices_S512x512_S256x512_256_0 (ix2 i j) = x (ix2 (i.natAdd 256) j) := by
  pointwise []
  rfl

variable (m : (ℓ : Loc nD τ sig) → Buf (Elt Ideal) ℓ) (c : Dev nD)

/-- The arguments' buffers at launch. -/
def bufs : Bufs where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)

/-- The arguments at launch. -/
abbrev args : Args := (bufs m c).args

theorem W2_v1 (j : Fin 256) : (V2 m c main_v1 : S1x256.Idx → EReal) (ix2 0 j) = (args m c).b1 j := by
  have e : W2 m c (Proc.devRef .tc main_v1) = shapeCast S1x256 (W1 m c (Proc.devRef .tc main_arg3)) shapeCasts_S256_S1x256 := by
    show StableHlo.after hostOps1 (W1 m c) (Proc.devRef .tc main_v1) = _
    after_results
    try rfl
  refine (congrFun e (ix2 0 j)).trans ((row256 _ j).trans ?_)
  exact congrFun (W1_args m c main_arg3 (by decide)) (ix1 j)
theorem W2_v2 (j : Fin 256) : (V2 m c main_v2 : S1x256.Idx → EReal) (ix2 0 j) = (args m c).g1 j := by
  have e : W2 m c (Proc.devRef .tc main_v2) = shapeCast S1x256 (W1 m c (Proc.devRef .tc main_arg4)) shapeCasts_S256_S1x256 := by
    show StableHlo.after hostOps1 (W1 m c) (Proc.devRef .tc main_v2) = _
    after_results
    try rfl
  refine (congrFun e (ix2 0 j)).trans ((row256 _ j).trans ?_)
  exact congrFun (W1_args m c main_arg4 (by decide)) (ix1 j)
theorem W2_v3 (j : Fin 256) : (V2 m c main_v3 : S1x256.Idx → EReal) (ix2 0 j) = (args m c).e1 j := by
  have e : W2 m c (Proc.devRef .tc main_v3) = shapeCast S1x256 (W1 m c (Proc.devRef .tc main_arg5)) shapeCasts_S256_S1x256 := by
    show StableHlo.after hostOps1 (W1 m c) (Proc.devRef .tc main_v3) = _
    after_results
    try rfl
  refine (congrFun e (ix2 0 j)).trans ((row256 _ j).trans ?_)
  exact congrFun (W1_args m c main_arg5 (by decide)) (ix1 j)
theorem W4_v5 (j : Fin 256) : (V4 m c main_v5 : S1x256.Idx → EReal) (ix2 0 j) = (args m c).b2 j := by
  have e : W4 m c (Proc.devRef .tc main_v5) = shapeCast S1x256 (W3 m c (Proc.devRef .tc main_arg7)) shapeCasts_S256_S1x256 := by
    show StableHlo.after hostOps2 (W3 m c) (Proc.devRef .tc main_v5) = _
    after_results
    try rfl
  refine (congrFun e (ix2 0 j)).trans ((row256 _ j).trans ?_)
  exact congrFun (W3_args m c main_arg7 (by decide)) (ix1 j)
theorem W4_v6 (j : Fin 256) : (V4 m c main_v6 : S1x256.Idx → EReal) (ix2 0 j) = (args m c).g2 j := by
  have e : W4 m c (Proc.devRef .tc main_v6) = shapeCast S1x256 (W3 m c (Proc.devRef .tc main_arg8)) shapeCasts_S256_S1x256 := by
    show StableHlo.after hostOps2 (W3 m c) (Proc.devRef .tc main_v6) = _
    after_results
    try rfl
  refine (congrFun e (ix2 0 j)).trans ((row256 _ j).trans ?_)
  exact congrFun (W3_args m c main_arg8 (by decide)) (ix1 j)
theorem W4_v7 (j : Fin 256) : (V4 m c main_v7 : S1x256.Idx → EReal) (ix2 0 j) = (args m c).e2 j := by
  have e : W4 m c (Proc.devRef .tc main_v7) = shapeCast S1x256 (W3 m c (Proc.devRef .tc main_arg9)) shapeCasts_S256_S1x256 := by
    show StableHlo.after hostOps2 (W3 m c) (Proc.devRef .tc main_v7) = _
    after_results
    try rfl
  refine (congrFun e (ix2 0 j)).trans ((row256 _ j).trans ?_)
  exact congrFun (W3_args m c main_arg9 (by decide)) (ix1 j)
theorem W4_v8 (j : Fin 256) : (V4 m c main_v8 : S1x256.Idx → EReal) (ix2 0 j) = (args m c).kb j := by
  have e : W4 m c (Proc.devRef .tc main_v8) = shapeCast S1x256 (W3 m c (Proc.devRef .tc main_arg14)) shapeCasts_S256_S1x256 := by
    show StableHlo.after hostOps2 (W3 m c) (Proc.devRef .tc main_v8) = _
    after_results
    try rfl
  refine (congrFun e (ix2 0 j)).trans ((row256 _ j).trans ?_)
  exact congrFun (W3_args m c main_arg14 (by decide)) (ix1 j)
theorem W4_v9 (j : Fin 256) : (V4 m c main_v9 : S1x256.Idx → EReal) (ix2 0 j) = (args m c).vb j := by
  have e : W4 m c (Proc.devRef .tc main_v9) = shapeCast S1x256 (W3 m c (Proc.devRef .tc main_arg16)) shapeCasts_S256_S1x256 := by
    show StableHlo.after hostOps2 (W3 m c) (Proc.devRef .tc main_v9) = _
    after_results
    try rfl
  refine (congrFun e (ix2 0 j)).trans ((row256 _ j).trans ?_)
  exact congrFun (W3_args m c main_arg16 (by decide)) (ix1 j)
theorem W4_v10 (j : Fin 256) : (V4 m c main_v10 : S1x256.Idx → EReal) (ix2 0 j) = (args m c).qb j := by
  have e : W4 m c (Proc.devRef .tc main_v10) = shapeCast S1x256 (W3 m c (Proc.devRef .tc main_arg12)) shapeCasts_S256_S1x256 := by
    show StableHlo.after hostOps2 (W3 m c) (Proc.devRef .tc main_v10) = _
    after_results
    try rfl
  refine (congrFun e (ix2 0 j)).trans ((row256 _ j).trans ?_)
  exact congrFun (W3_args m c main_arg12 (by decide)) (ix1 j)
theorem W6_v14 (j : Fin 256) : (V6 m c main_v14 : S1x256.Idx → EReal) (ix2 0 j) = (args m c).qb j := by
  have e : W6 m c (Proc.devRef .tc main_v14) = shapeCast S1x256 (W5 m c (Proc.devRef .tc main_arg12)) shapeCasts_S256_S1x256 := by
    show StableHlo.after hostOps3 (W5 m c) (Proc.devRef .tc main_v14) = _
    after_results
    try rfl
  refine (congrFun e (ix2 0 j)).trans ((row256 _ j).trans ?_)
  exact congrFun (W5_args m c main_arg12 (by decide)) (ix1 j)
theorem W6_v15 (j : Fin 512) : (V6 m c main_v15 : S1x512.Idx → EReal) (ix2 0 j) = (args m c).m1b j := by
  have e : W6 m c (Proc.devRef .tc main_v15) = shapeCast S1x512 (W5 m c (Proc.devRef .tc main_arg18)) shapeCasts_S512_S1x512 := by
    show StableHlo.after hostOps3 (W5 m c) (Proc.devRef .tc main_v15) = _
    after_results
    try rfl
  refine (congrFun e (ix2 0 j)).trans ((row512 _ j).trans ?_)
  exact congrFun (W5_args m c main_arg18 (by decide)) (ix1 j)
theorem W6_v16 (j : Fin 256) : (V6 m c main_v16 : S1x256.Idx → EReal) (ix2 0 j) = (args m c).m2b j := by
  have e : W6 m c (Proc.devRef .tc main_v16) = shapeCast S1x256 (W5 m c (Proc.devRef .tc main_arg20)) shapeCasts_S256_S1x256 := by
    show StableHlo.after hostOps3 (W5 m c) (Proc.devRef .tc main_v16) = _
    after_results
    try rfl
  refine (congrFun e (ix2 0 j)).trans ((row256 _ j).trans ?_)
  exact congrFun (W5_args m c main_arg20 (by decide)) (ix1 j)
theorem W6_v17 (j : Fin 256) : (V6 m c main_v17 : S1x256.Idx → EReal) (ix2 0 j) = (args m c).m3b j := by
  have e : W6 m c (Proc.devRef .tc main_v17) = shapeCast S1x256 (W5 m c (Proc.devRef .tc main_arg22)) shapeCasts_S256_S1x256 := by
    show StableHlo.after hostOps3 (W5 m c) (Proc.devRef .tc main_v17) = _
    after_results
    try rfl
  refine (congrFun e (ix2 0 j)).trans ((row256 _ j).trans ?_)
  exact congrFun (W5_args m c main_arg22 (by decide)) (ix1 j)
theorem W6_v18 (j : Fin 256) : (V6 m c main_v18 : S1x256.Idx → EReal) (ix2 0 j) = (args m c).kb j := by
  have e : W6 m c (Proc.devRef .tc main_v18) = shapeCast S1x256 (W5 m c (Proc.devRef .tc main_arg14)) shapeCasts_S256_S1x256 := by
    show StableHlo.after hostOps3 (W5 m c) (Proc.devRef .tc main_v18) = _
    after_results
    try rfl
  refine (congrFun e (ix2 0 j)).trans ((row256 _ j).trans ?_)
  exact congrFun (W5_args m c main_arg14 (by decide)) (ix1 j)
theorem W6_v12 (i : Fin 256) (j : Fin 512) : (V6 m c main_v12 : S256x512.Idx → EReal) (ix2 i j) = (args m c).m1w (i.castAdd 256) j := by
  have e : W6 m c (Proc.devRef .tc main_v12) = extractStridedSlice S256x512 ![0, 0] (W5 m c (Proc.devRef .tc main_arg17)) slices_S512x512_S256x512_0_0 := by
    show StableHlo.after hostOps3 (W5 m c) (Proc.devRef .tc main_v12) = _
    after_results
    try rfl
  refine (congrFun e (ix2 i j)).trans ((upper _ i j).trans ?_)
  exact congrFun (W5_args m c main_arg17 (by decide)) (ix2 (i.castAdd 256) j)
theorem W6_v13 (i : Fin 256) (j : Fin 512) : (V6 m c main_v13 : S256x512.Idx → EReal) (ix2 i j) = (args m c).m1w (i.natAdd 256) j := by
  have e : W6 m c (Proc.devRef .tc main_v13) = extractStridedSlice S256x512 ![256, 0] (W5 m c (Proc.devRef .tc main_arg17)) slices_S512x512_S256x512_256_0 := by
    show StableHlo.after hostOps3 (W5 m c) (Proc.devRef .tc main_v13) = _
    after_results
    try rfl
  refine (congrFun e (ix2 i j)).trans ((lower _ i j).trans ?_)
  exact congrFun (W5_args m c main_arg17 (by decide)) (ix2 (i.natAdd 256) j)

/-! ### The regions in order -/

theorem W1_d : W1 m c (Proc.devRef .tc main_v0_0) = fun y : S4096x1.Idx => (args m c).d (y 0) :=
  (W1_arr m c 3).trans (arr0_3 (V0 m) c (args m c) (fun _ _ => rfl))
theorem W1_z : W1 m c (Proc.devRef .tc main_v0_1) = fun y : S4096x256.Idx => (args m c).zp1 (y 0) (y 1) :=
  (W1_arr m c 4).trans (arr0_4 (V0 m) c (args m c) (fun _ _ => rfl) (fun _ _ => rfl) (fun _ _ => rfl))

theorem in1 : In1 (V2 m) c (args m c) where
  A := fun i j => congrFun (W2_args m c main_arg1 (by decide)) (ix2 i j)
  Z := fun i j => congrFun ((W2_of m c main_v0_1 (by decide)).trans (W1_z m c)) (ix2 i j)
  d := fun i => congrFun ((W2_of m c main_v0_0 (by decide)).trans (W1_d m c)) (ix2 i 0)
  b := W2_v1 m c
  g := W2_v2 m c
  e := W2_v3 m c
  W := fun i j => congrFun (W2_args m c main_arg6 (by decide)) (ix2 i j)

theorem W3_z : W3 m c (Proc.devRef .tc main_v4) = fun y : S4096x256.Idx => (args m c).zp2 (y 0) (y 1) :=
  (W3_arr m c 7).trans (arr1_7 (V2 m) c (args m c) (in1 m c))

theorem W3_d : W3 m c (Proc.devRef .tc main_v0_0) = fun y : S4096x1.Idx => (args m c).d (y 0) :=
  (W3_of m c main_v0_0 (by decide)).trans ((W2_of m c main_v0_0 (by decide)).trans (W1_d m c))

theorem in2 : In2 (V4 m) c (args m c) where
  A := fun i j => congrFun (W4_args m c main_arg1 (by decide)) (ix2 i j)
  Z := fun i j => congrFun ((W4_of m c main_v4 (by decide)).trans (W3_z m c)) (ix2 i j)
  d := fun i => congrFun ((W4_of m c main_v0_0 (by decide)).trans (W3_d m c)) (ix2 i 0)
  b := W4_v5 m c
  g := W4_v6 m c
  e := W4_v7 m c
  kw := fun i j => congrFun (W4_args m c main_arg13 (by decide)) (ix2 i j)
  kb := W4_v8 m c
  vw := fun i j => congrFun (W4_args m c main_arg15 (by decide)) (ix2 i j)
  vb := W4_v9 m c
  qw := fun i j => congrFun (W4_args m c main_arg11 (by decide)) (ix2 i j)
  qb := W4_v10 m c

theorem W5_k : W5 m c (Proc.devRef .tc main_v11_0) = fun y : S4096x256.Idx => (args m c).k1 (y 0) (y 1) :=
  (W5_arr m c 12).trans (arr2_12 (V4 m) c (args m c) (in2 m c))
theorem W5_v : W5 m c (Proc.devRef .tc main_v11_1) = fun y : S4096x256.Idx => (args m c).v1 (y 0) (y 1) :=
  (W5_arr m c 13).trans (arr2_13 (V4 m) c (args m c) (in2 m c))
theorem W5_q : W5 m c (Proc.devRef .tc main_v11_2) = fun y : S4096x256.Idx => (args m c).q2 (y 0) (y 1) :=
  (W5_arr m c 14).trans (arr2_14 (V4 m) c (args m c) (in2 m c))

theorem in3 : In3 (V6 m) c (args m c) where
  mu := fun i j => congrFun (W6_args m c main_arg10 (by decide)) (ix2 i j)
  qw := fun i j => congrFun (W6_args m c main_arg11 (by decide)) (ix2 i j)
  qb := W6_v14 m c
  k := fun i j => congrFun ((W6_of m c main_v11_0 (by decide)).trans (W5_k m c)) (ix2 i j)
  v := fun i j => congrFun ((W6_of m c main_v11_1 (by decide)).trans (W5_v m c)) (ix2 i j)
  ma := W6_v12 m c
  mb := W6_v13 m c
  m1b := W6_v15 m c
  m2w := fun i j => congrFun (W6_args m c main_arg19 (by decide)) (ix2 i j)
  m2b := W6_v16 m c
  m3w := fun i j => congrFun (W6_args m c main_arg21 (by decide)) (ix2 i j)
  m3b := W6_v17 m c
  kw := fun i j => congrFun (W6_args m c main_arg13 (by decide)) (ix2 i j)
  kb := W6_v18 m c

variable (hR : (args m c).Real)
include hR

theorem W7_xe : W7 m c (Proc.devRef .tc main_v19_0) = fun y : S1024x256.Idx => (args m c).xe (y 0) (y 1) :=
  (W7_arr m c 14).trans (arr3_14 (V6 m) c (args m c) (in3 m c) hR)
theorem W7_k : W7 m c (Proc.devRef .tc main_v19_1) = fun y : S1024x256.Idx => (args m c).k2 (y 0) (y 1) :=
  (W7_arr m c 15).trans (arr3_15 (V6 m) c (args m c) (in3 m c) hR)

theorem in4 : In4 (V7 m) c (args m c) where
  q := fun i j => congrFun ((W7_of m c main_v11_2 (by decide)).trans ((W6_of m c main_v11_2 (by decide)).trans (W5_q m c))) (ix2 i j)
  k := fun i j => congrFun (W7_k m c hR) (ix2 i j)

theorem W8_soft : W8 m c (Proc.devRef .tc main_v20_0) = fun y : S4096x1024.Idx => (args m c).p2 (y 0) (y 1) :=
  (W8_arr m c 2).trans (arr4_2 (V7 m) c (args m c) (in4 m c hR) hR)
theorem W8_hard : W8 m c (Proc.devRef .tc main_v20_1) = fun y : S4096x1024.Idx => (args m c).hard (y 0) (y 1) :=
  (W8_arr m c 3).trans (arr4_3 (V7 m) c (args m c) (in4 m c hR) hR)
theorem W8_xe : W8 m c (Proc.devRef .tc main_v19_0) = fun y : S1024x256.Idx => (args m c).xe (y 0) (y 1) :=
  (W8_of m c main_v19_0 (by decide)).trans (W7_xe m c hR)

end Cert.KernelIdeal.Run
end
-- ==== Proof.Value.Finite.lean ====
module

public import proofs.«01_k».proof.Defs
public import proofs.«01_k».proof.Proof.Math.Net
public import Idealize.ShloMosaic.Lib.Pointwise

@[expose] public section

set_option maxRecDepth 16384

noncomputable section

namespace Cert.Pre_finite_arguments

open Idealize.ShloMosaic
open Cert.Math

/-! The precondition read: every element of every argument is a real number. -/

theorem facts : Facts := by
  constructor <;> decide

/-- Where an array's element is smaller in size than infinity. -/
def small {S : Shape} (h : S_.BroadcastsInDim S (![] : Fin 0 → Fin S.rank)) (x : FVec Ideal S .f32) : IVec S 1 :=
  cmpf .olt (Host.absf x) (broadcastInDim S ![] h (constant S_ .f32 0x7F800000#32))

theorem below_top (y : EReal) (e : Ideal.cmp .olt (max y (-y)) ⊤ = 1#1) : IsReal y := by
  induction y with
  | bot => exact absurd e (by simp [Ideal.cmp])
  | top => exact absurd e (by simp [Ideal.cmp])
  | coe r => exact ⟨r, rfl⟩

theorem small_real {S : Shape} {h : S_.BroadcastsInDim S (![] : Fin 0 → Fin S.rank)} {x : FVec Ideal S .f32} {i : S.Idx} (e : small h x i = 1#1) : IsReal (x i) := by
  have e' : FloatOps.cmpf .olt (FloatOps.hostAbsf (x i)) (Ideal.ofBits .f32 0x7F800000#32) = 1#1 := e
  rw [lit_top] at e'
  exact below_top _ e'

theorem both {a b : BitVec 1} (h : IntOp.andi a b = 1#1) : a = 1#1 ∧ b = 1#1 := by
  revert a b
  decide

theorem both_at {S : Shape} {u v : IVec S 1} {i : S.Idx} (h : andi u v i = 1#1) : u i = 1#1 ∧ v i = 1#1 := both h

variable [Facts]
open Facts

theorem fn_0 (b : Bufs) : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).1 = small bcast_S_S4096x512 b.x0 := rfl
theorem fn_1 (b : Bufs) : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.1 = small bcast_S_S4096x4096 b.x1 := rfl
theorem fn_2 (b : Bufs) : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.1 = andi (small bcast_S_S512x256 b.x2) (small bcast_S_S512x256 b.x19) := rfl
theorem fn_3 (b : Bufs) : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.2.1 = andi (andi (andi (andi (andi (andi (andi (andi (andi (andi (small bcast_S_S256 b.x3) (small bcast_S_S256 b.x4)) (small bcast_S_S256 b.x5)) (small bcast_S_S256 b.x7)) (small bcast_S_S256 b.x8)) (small bcast_S_S256 b.x9)) (small bcast_S_S256 b.x12)) (small bcast_S_S256 b.x14)) (small bcast_S_S256 b.x16)) (small bcast_S_S256 b.x20)) (small bcast_S_S256 b.x22) := rfl
theorem fn_4 (b : Bufs) : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.2.2.1 = andi (andi (andi (andi (small bcast_S_S256x256 b.x6) (small bcast_S_S256x256 b.x11)) (small bcast_S_S256x256 b.x13)) (small bcast_S_S256x256 b.x15)) (small bcast_S_S256x256 b.x21) := rfl
theorem fn_5 (b : Bufs) : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.2.2.2.1 = small bcast_S_S1024x256 b.x10 := rfl
theorem fn_6 (b : Bufs) : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.2.2.2.2.1 = small bcast_S_S512x512 b.x17 := rfl
theorem fn_7 (b : Bufs) : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.2.2.2.2.2 = small bcast_S_S512 b.x18 := rfl

/-- The precondition's eight arrays all ones: every argument real. -/
theorem real (b : Bufs)
    (h0 : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).1 = fun _ => 1#1)
    (h1 : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.1 = fun _ => 1#1)
    (h2 : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.1 = fun _ => 1#1)
    (h3 : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.2.1 = fun _ => 1#1)
    (h4 : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.2.2.1 = fun _ => 1#1)
    (h5 : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.2.2.2.1 = fun _ => 1#1)
    (h6 : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.2.2.2.2.1 = fun _ => 1#1)
    (h7 : (fn (F := Ideal) b.x0 b.x1 b.x2 b.x3 b.x4 b.x5 b.x6 b.x7 b.x8 b.x9 b.x10 b.x11 b.x12 b.x13 b.x14 b.x15 b.x16 b.x17 b.x18 b.x19 b.x20 b.x21 b.x22).2.2.2.2.2.2.2 = fun _ => 1#1) : b.args.Real := by
  rw [fn_0] at h0
  rw [fn_1] at h1
  rw [fn_2] at h2
  rw [fn_3] at h3
  rw [fn_4] at h4
  rw [fn_5] at h5
  rw [fn_6] at h6
  rw [fn_7] at h7
  exact {
    X := fun i j => small_real (congrFun h0 (ix2 i j))
    A := fun i j => small_real (congrFun h1 (ix2 i j))
    W1 := fun i j => small_real ((both_at (congrFun h2 (ix2 i j))).1)
    b1 := fun j => small_real ((both_at ((both_at ((both_at ((both_at ((both_at ((both_at ((both_at ((both_at ((both_at ((both_at (congrFun h3 (ix1 j))).1)).1)).1)).1)).1)).1)).1)).1)).1)).1)
    g1 := fun j => small_real ((both_at ((both_at ((both_at ((both_at ((both_at ((both_at ((both_at ((both_at ((both_at ((both_at (congrFun h3 (ix1 j))).1)).1)).1)).1)).1)).1)).1)).1)).1)).2)
    e1 := fun j => small_real ((both_at ((both_at ((both_at ((both_at ((both_at ((both_at ((both_at ((both_at ((both_at (congrFun h3 (ix1 j))).1)).1)).1)).1)).1)).1)).1)).1)).2)
    W2 := fun i j => small_real ((both_at ((both_at ((both_at ((both_at (congrFun h4 (ix2 i j))).1)).1)).1)).1)
    b2 := fun j => small_real ((both_at ((both_at ((both_at ((both_at ((both_at ((both_at ((both_at ((both_at (congrFun h3 (ix1 j))).1)).1)).1)).1)).1)).1)).1)).2)
    g2 := fun j => small_real ((both_at ((both_at ((both_at ((both_at ((both_at ((both_at ((both_at (congrFun h3 (ix1 j))).1)).1)).1)).1)).1)).1)).2)
    e2 := fun j => small_real ((both_at ((both_at ((both_at ((both_at ((both_at ((both_at (congrFun h3 (ix1 j))).1)).1)).1)).1)).1)).2)
    mu := fun i j => small_real (congrFun h5 (ix2 i j))
    qw := fun i j => small_real ((both_at ((both_at ((both_at ((both_at (congrFun h4 (ix2 i j))).1)).1)).1)).2)
    qb := fun j => small_real ((both_at ((both_at ((both_at ((both_at ((both_at (congrFun h3 (ix1 j))).1)).1)).1)).1)).2)
    kw := fun i j => small_real ((both_at ((both_at ((both_at (congrFun h4 (ix2 i j))).1)).1)).2)
    kb := fun j => small_real ((both_at ((both_at ((both_at ((both_at (congrFun h3 (ix1 j))).1)).1)).1)).2)
    vw := fun i j => small_real ((both_at ((both_at (congrFun h4 (ix2 i j))).1)).2)
    vb := fun j => small_real ((both_at ((both_at ((both_at (congrFun h3 (ix1 j))).1)).1)).2)
    m1w := fun i j => small_real (congrFun h6 (ix2 i j))
    m1b := fun j => small_real (congrFun h7 (ix1 j))
    m2w := fun i j => small_real ((both_at (congrFun h2 (ix2 i j))).2)
    m2b := fun j => small_real ((both_at ((both_at (congrFun h3 (ix1 j))).1)).2)
    m3w := fun i j => small_real ((both_at (congrFun h4 (ix2 i j))).2)
    m3b := fun j => small_real ((both_at (congrFun h3 (ix1 j))).2)
  }

end Cert.Pre_finite_arguments
end
-- ==== Proof.Algebraic.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Math.RefNet
public import proofs.«01_k».proof.Proof.Value.Chain
public import proofs.«01_k».proof.Proof.Value.Finite

@[expose] public section

set_option maxRecDepth 16384

noncomputable section

namespace Cert.Proof

open Idealize.ShloMosaic Idealize.SL.Sem Idealize.ShloMosaic.TcCoe
open Cert.Math

/-- The reference's argument buffers at launch. -/
def refBufs (m : (ℓ : Loc Cert.ReferenceIdeal.nD Cert.ReferenceIdeal.τ Cert.ReferenceIdeal.sig) → Buf (Elt Ideal) ℓ)
    (c : Dev Cert.ReferenceIdeal.nD) : Bufs where
  x0 := m ((c.tc : Thread Cert.ReferenceIdeal.nD Cert.ReferenceIdeal.τ).loc Cert.ReferenceIdeal.main_arg0)
  x1 := m ((c.tc : Thread Cert.ReferenceIdeal.nD Cert.ReferenceIdeal.τ).loc Cert.ReferenceIdeal.main_arg1)
  x2 := m ((c.tc : Thread Cert.ReferenceIdeal.nD Cert.ReferenceIdeal.τ).loc Cert.ReferenceIdeal.main_arg2)
  x3 := m ((c.tc : Thread Cert.ReferenceIdeal.nD Cert.ReferenceIdeal.τ).loc Cert.ReferenceIdeal.main_arg3)
  x4 := m ((c.tc : Thread Cert.ReferenceIdeal.nD Cert.ReferenceIdeal.τ).loc Cert.ReferenceIdeal.main_arg4)
  x5 := m ((c.tc : Thread Cert.ReferenceIdeal.nD Cert.ReferenceIdeal.τ).loc Cert.ReferenceIdeal.main_arg5)
  x6 := m ((c.tc : Thread Cert.ReferenceIdeal.nD Cert.ReferenceIdeal.τ).loc Cert.ReferenceIdeal.main_arg6)
  x7 := m ((c.tc : Thread Cert.ReferenceIdeal.nD Cert.ReferenceIdeal.τ).loc Cert.ReferenceIdeal.main_arg7)
  x8 := m ((c.tc : Thread Cert.ReferenceIdeal.nD Cert.ReferenceIdeal.τ).loc Cert.ReferenceIdeal.main_arg8)
  x9 := m ((c.tc : Thread Cert.ReferenceIdeal.nD Cert.ReferenceIdeal.τ).loc Cert.ReferenceIdeal.main_arg9)
  x10 := m ((c.tc : Thread Cert.ReferenceIdeal.nD Cert.ReferenceIdeal.τ).loc Cert.ReferenceIdeal.main_arg10)
  x11 := m ((c.tc : Thread Cert.ReferenceIdeal.nD Cert.ReferenceIdeal.τ).loc Cert.ReferenceIdeal.main_arg11)
  x12 := m ((c.tc : Thread Cert.ReferenceIdeal.nD Cert.ReferenceIdeal.τ).loc Cert.ReferenceIdeal.main_arg12)
  x13 := m ((c.tc : Thread Cert.ReferenceIdeal.nD Cert.ReferenceIdeal.τ).loc Cert.ReferenceIdeal.main_arg13)
  x14 := m ((c.tc : Thread Cert.ReferenceIdeal.nD Cert.ReferenceIdeal.τ).loc Cert.ReferenceIdeal.main_arg14)
  x15 := m ((c.tc : Thread Cert.ReferenceIdeal.nD Cert.ReferenceIdeal.τ).loc Cert.ReferenceIdeal.main_arg15)
  x16 := m ((c.tc : Thread Cert.ReferenceIdeal.nD Cert.ReferenceIdeal.τ).loc Cert.ReferenceIdeal.main_arg16)
  x17 := m ((c.tc : Thread Cert.ReferenceIdeal.nD Cert.ReferenceIdeal.τ).loc Cert.ReferenceIdeal.main_arg17)
  x18 := m ((c.tc : Thread Cert.ReferenceIdeal.nD Cert.ReferenceIdeal.τ).loc Cert.ReferenceIdeal.main_arg18)
  x19 := m ((c.tc : Thread Cert.ReferenceIdeal.nD Cert.ReferenceIdeal.τ).loc Cert.ReferenceIdeal.main_arg19)
  x20 := m ((c.tc : Thread Cert.ReferenceIdeal.nD Cert.ReferenceIdeal.τ).loc Cert.ReferenceIdeal.main_arg20)
  x21 := m ((c.tc : Thread Cert.ReferenceIdeal.nD Cert.ReferenceIdeal.τ).loc Cert.ReferenceIdeal.main_arg21)
  x22 := m ((c.tc : Thread Cert.ReferenceIdeal.nD Cert.ReferenceIdeal.τ).loc Cert.ReferenceIdeal.main_arg22)

theorem ref_v200 (b : Bufs) (h : b.args.Real) : Cert.ReferenceIdeal.Read.val_main_v200 (F := Ideal) b.x0 b.x1 b.x2 b.x3 b.x4 b.x5 b.x6 b.x7 b.x8 b.x9 b.x10 b.x11 b.x12 b.x13 b.x14 b.x15 b.x16 b.x17 b.x18 b.x19 b.x20 b.x21 b.x22
    = fun y : Cert.ReferenceIdeal.S4096x1024.Idx => b.args.hard (y 0) (y 1) :=
  funext fun y => (congrArg _ (eq_ix2 y)).trans (Cert.Ref.v200_at b h (y 0) (y 1))

theorem ref_v156 (b : Bufs) (h : b.args.Real) : Cert.ReferenceIdeal.Read.val_main_v156 (F := Ideal) b.x0 b.x1 b.x2 b.x3 b.x4 b.x5 b.x6 b.x7 b.x8 b.x9 b.x10 b.x11 b.x12 b.x13 b.x14 b.x15 b.x16 b.x17 b.x18 b.x19 b.x20 b.x21 b.x22
    = fun y : Cert.ReferenceIdeal.S1024x256.Idx => b.args.xe (y 0) (y 1) :=
  funext fun y => (congrArg _ (eq_ix2 y)).trans (Cert.Ref.v156_at b h (y 0) (y 1))

theorem ref_v179 (b : Bufs) (h : b.args.Real) : Cert.ReferenceIdeal.Read.val_main_v179 (F := Ideal) b.x0 b.x1 b.x2 b.x3 b.x4 b.x5 b.x6 b.x7 b.x8 b.x9 b.x10 b.x11 b.x12 b.x13 b.x14 b.x15 b.x16 b.x17 b.x18 b.x19 b.x20 b.x21 b.x22
    = fun y : Cert.ReferenceIdeal.S4096x1024.Idx => b.args.p2 (y 0) (y 1) :=
  funext fun y => (congrArg _ (eq_ix2 y)).trans (Cert.Ref.v179_at b h (y 0) (y 1))

/-- The program and the reference end with the same three arrays. -/
theorem equal_results : Cert.algebraic_KernelIdeal_ReferenceIdeal_pre_finite_arguments (hKernelIdeal := Cert.KernelIdeal.Gen.facts)
    (hReferenceIdeal := Cert.ReferenceIdeal.Gen.facts) (hPre_finite_arguments := Cert.Pre_finite_arguments.facts) := by
  intro m g m' g' hp ha
  have hb : ∀ c : Dev Cert.KernelIdeal.nD, refBufs m' c = Cert.KernelIdeal.Run.bufs m c := fun c => by
    obtain ⟨h0, h1, h2, h3, h4, h5, h6, h7, h8, h9, h10, h11, h12, h13, h14, h15, h16, h17, h18, h19, h20, h21, h22⟩ := ha c
    unfold refBufs Cert.KernelIdeal.Run.bufs
    congr 1
  have hR : ∀ c : Dev Cert.KernelIdeal.nD, (Cert.KernelIdeal.Run.args m c).Real := fun c => by
    obtain ⟨p0, p1, p2, p3, p4, p5, p6, p7⟩ := hp c
    exact @Cert.Pre_finite_arguments.real Cert.Pre_finite_arguments.facts (Cert.KernelIdeal.Run.bufs m c) p0 p1 p2 p3 p4 p5 p6 p7
  refine ⟨fun c y => (Cert.KernelIdeal.Run.args m c).hard (y 0) (y 1), fun c y => (Cert.KernelIdeal.Run.args m c).xe (y 0) (y 1),
    fun c y => (Cert.KernelIdeal.Run.args m c).p2 (y 0) (y 1), ?_, ?_⟩
  · refine (θ_run (Cert.KernelIdeal.defs (F := Ideal)) _ _).mono (fun r h c => ?_) (Cert.KernelIdeal.Run.run (F := Ideal) m g)
    exact ⟨(h.1 c _ (Cert.KernelIdeal.Run.mem_uc Cert.KernelIdeal.main_v20_1 (by decide))).trans (Cert.KernelIdeal.Run.W8_hard m c (hR c)),
      (h.1 c _ (Cert.KernelIdeal.Run.mem_uc Cert.KernelIdeal.main_v19_0 (by decide))).trans (Cert.KernelIdeal.Run.W8_xe m c (hR c)),
      (h.1 c _ (Cert.KernelIdeal.Run.mem_uc Cert.KernelIdeal.main_v20_0 (by decide))).trans (Cert.KernelIdeal.Run.W8_soft m c (hR c)),
      Cert.KernelIdeal.Run.args_kept m c r.2.mem (h.1 c) Cert.KernelIdeal.main_arg0 (by decide) (by decide),
      Cert.KernelIdeal.Run.args_kept m c r.2.mem (h.1 c) Cert.KernelIdeal.main_arg1 (by decide) (by decide),
      Cert.KernelIdeal.Run.args_kept m c r.2.mem (h.1 c) Cert.KernelIdeal.main_arg2 (by decide) (by decide),
      Cert.KernelIdeal.Run.args_kept m c r.2.mem (h.1 c) Cert.KernelIdeal.main_arg3 (by decide) (by decide),
      Cert.KernelIdeal.Run.args_kept m c r.2.mem (h.1 c) Cert.KernelIdeal.main_arg4 (by decide) (by decide),
      Cert.KernelIdeal.Run.args_kept m c r.2.mem (h.1 c) Cert.KernelIdeal.main_arg5 (by decide) (by decide),
      Cert.KernelIdeal.Run.args_kept m c r.2.mem (h.1 c) Cert.KernelIdeal.main_arg6 (by decide) (by decide),
      Cert.KernelIdeal.Run.args_kept m c r.2.mem (h.1 c) Cert.KernelIdeal.main_arg7 (by decide) (by decide),
      Cert.KernelIdeal.Run.args_kept m c r.2.mem (h.1 c) Cert.KernelIdeal.main_arg8 (by decide) (by decide),
      Cert.KernelIdeal.Run.args_kept m c r.2.mem (h.1 c) Cert.KernelIdeal.main_arg9 (by decide) (by decide),
      Cert.KernelIdeal.Run.args_kept m c r.2.mem (h.1 c) Cert.KernelIdeal.main_arg10 (by decide) (by decide),
      Cert.KernelIdeal.Run.args_kept m c r.2.mem (h.1 c) Cert.KernelIdeal.main_arg11 (by decide) (by decide),
      Cert.KernelIdeal.Run.args_kept m c r.2.mem (h.1 c) Cert.KernelIdeal.main_arg12 (by decide) (by decide),
      Cert.KernelIdeal.Run.args_kept m c r.2.mem (h.1 c) Cert.KernelIdeal.main_arg13 (by decide) (by decide),
      Cert.KernelIdeal.Run.args_kept m c r.2.mem (h.1 c) Cert.KernelIdeal.main_arg14 (by decide) (by decide),
      Cert.KernelIdeal.Run.args_kept m c r.2.mem (h.1 c) Cert.KernelIdeal.main_arg15 (by decide) (by decide),
      Cert.KernelIdeal.Run.args_kept m c r.2.mem (h.1 c) Cert.KernelIdeal.main_arg16 (by decide) (by decide),
      Cert.KernelIdeal.Run.args_kept m c r.2.mem (h.1 c) Cert.KernelIdeal.main_arg17 (by decide) (by decide),
      Cert.KernelIdeal.Run.args_kept m c r.2.mem (h.1 c) Cert.KernelIdeal.main_arg18 (by decide) (by decide),
      Cert.KernelIdeal.Run.args_kept m c r.2.mem (h.1 c) Cert.KernelIdeal.main_arg19 (by decide) (by decide),
      Cert.KernelIdeal.Run.args_kept m c r.2.mem (h.1 c) Cert.KernelIdeal.main_arg20 (by decide) (by decide),
      Cert.KernelIdeal.Run.args_kept m c r.2.mem (h.1 c) Cert.KernelIdeal.main_arg21 (by decide) (by decide),
      Cert.KernelIdeal.Run.args_kept m c r.2.mem (h.1 c) Cert.KernelIdeal.main_arg22 (by decide) (by decide)⟩
  · refine (θ_run (Cert.ReferenceIdeal.defs (F := Ideal)) _ _).mono (fun r h c => ?_) (Cert.ReferenceIdeal.Value.run (F := Ideal) m' g')
    obtain ⟨e0, e1, e2, keep⟩ := h c
    have hr : (refBufs m' c).args.Real := by rw [hb c]; exact hR c
    have same : (refBufs m' c).args = Cert.KernelIdeal.Run.args m c := congrArg Bufs.args (hb c)
    exact ⟨e0.trans ((Cert.ReferenceIdeal.Read.val_main_v200_eq (Idealize.ShloMosaic.StableHlo.launchContents m' c)).trans ((ref_v200 (refBufs m' c) hr).trans
        (congrArg (fun (a : Args) (y : Cert.ReferenceIdeal.S4096x1024.Idx) => a.hard (y 0) (y 1)) same))),
      e1.trans ((Cert.ReferenceIdeal.Read.val_main_v156_eq (Idealize.ShloMosaic.StableHlo.launchContents m' c)).trans ((ref_v156 (refBufs m' c) hr).trans
        (congrArg (fun (a : Args) (y : Cert.ReferenceIdeal.S1024x256.Idx) => a.xe (y 0) (y 1)) same))),
      e2.trans ((Cert.ReferenceIdeal.Read.val_main_v179_eq (Idealize.ShloMosaic.StableHlo.launchContents m' c)).trans ((ref_v179 (refBufs m' c) hr).trans
        (congrArg (fun (a : Args) (y : Cert.ReferenceIdeal.S4096x1024.Idx) => a.p2 (y 0) (y 1)) same))), keep⟩

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic

@[expose] public section

noncomputable section

namespace Cert.Proof

/-- The frames under the precondition: they hold without it. -/
theorem frame_ideal_pre : Cert.quiescent_KernelIdeal_pre_finite_arguments (hKernelIdeal := Cert.KernelIdeal.Gen.facts)
    (hPre_finite_arguments := Cert.Pre_finite_arguments.facts) := fun m g _ => frame_ideal m g trivial

theorem frame_reference_pre : Cert.quiescent_ReferenceIdeal_pre_finite_arguments (hReferenceIdeal := Cert.ReferenceIdeal.Gen.facts)
    (hPre_finite_arguments := Cert.Pre_finite_arguments.facts) := fun m g _ => frame_reference m g trivial

theorem claim : Cert.Claim :=
  ⟨Cert.Kernel.Gen.facts, Cert.KernelIdeal.Gen.facts, Cert.ReferenceIdeal.Gen.facts, Cert.Pre_finite_arguments.facts, frame_kernel, frame_ideal,
    frame_ideal_pre, frame_reference, frame_reference_pre, trivial, equal_results⟩

end Cert.Proof

end
